-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨3, ![1, 256, 256]⟩ ⟨3, ![4, 256, 256]⟩ 0 4 c (m' (((0 : Dev Cert.ReferenceIdeal.nD).tc : Thread Cert.ReferenceIdeal.nD Cert.ReferenceIdeal.τ).loc Cert.ReferenceIdeal.main_arg0))) →
    ∃ (v0 : Buf (Elt Ideal) (((0 : Dev Cert.ReferenceIdeal.nD).tc : Thread Cert.ReferenceIdeal.nD Cert.ReferenceIdeal.τ).loc Cert.ReferenceIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v1) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S1x256x256 : Shape := ⟨3, ![1, 256, 256]⟩
abbrev S256x256 : Shape := ⟨2, ![256, 256]⟩
abbrev S2x128x256 : Shape := ⟨3, ![2, 128, 256]⟩
abbrev S2 : Shape := ⟨1, ![2]⟩
abbrev S2x2 : Shape := ⟨2, ![2, 2]⟩
abbrev S1 : Shape := ⟨1, ![1]⟩
abbrev S_ : Shape := ⟨0, ![]⟩
abbrev S128x256 : Shape := ⟨2, ![128, 256]⟩
abbrev S1x128x256 : Shape := ⟨3, ![1, 128, 256]⟩
abbrev S1x1 : Shape := ⟨2, ![1, 1]⟩

abbrev nBuf : Space → Nat
  | .hbm => 2
  | .vmem => 6
  | .smem => 0
  | _ => 0

abbrev bufTy : (tb : Table) → Fin (tcTables nBuf tb) → BufTy
  | .hbm, ⟨0, _⟩ => ⟨S1x256x256, .f32⟩
  | .hbm, ⟨1, _⟩ => ⟨S256x256, .bf16⟩
  | .local _ .vmem, ⟨0, _⟩ => ⟨S1x256x256, .f32⟩
  | .local _ .vmem, ⟨1, _⟩ => ⟨S256x256, .bf16⟩
  | .local _ .vmem, ⟨2, _⟩ => ⟨S2x128x256, .bf16⟩
  | .local _ .vmem, ⟨3, _⟩ => ⟨S2x128x256, .bf16⟩
  | .local _ .vmem, ⟨4, _⟩ => ⟨S2x128x256, .bf16⟩
  | .local _ .vmem, ⟨5, _⟩ => ⟨S2x128x256, .bf16⟩
  | _, _ => ⟨S1x256x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 1 → Bool
  | ⟨0, _⟩ => false
  | _ => false

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  (ofTc nBuf bufTy 1 10 bufScoped semScoped dmaSemScoped tileCredit tileCredit_eq_zero tileCredit_pos).withBarriers [(0, 0)]

abbrev main_arg0 : Ref sig .tc := ⟨.hbm, 0, rfl⟩
abbrev main_v1 : Ref sig .tc := ⟨.hbm, 1, rfl⟩
abbrev cc0_scratch0 : Ref sig .tc := ⟨.vmem, 0, rfl⟩
abbrev cc0_scratch1 : Ref sig .tc := ⟨.vmem, 1, rfl⟩
abbrev cc0_scratch2 : Ref sig .tc := ⟨.vmem, 2, rfl⟩
abbrev cc0_scratch3 : Ref sig .tc := ⟨.vmem, 3, rfl⟩
abbrev cc0_scratch4 : Ref sig .tc := ⟨.vmem, 4, rfl⟩
abbrev cc0_scratch5 : Ref sig .tc := ⟨.vmem, 5, rfl⟩
abbrev barrier0 : Sem sig := 0

abbrev nD : Nat := 4
abbrev τ : Topo := Topo.v7x

variable {F : FTy → Type} [FloatOps F]

abbrev grid0 : Pipeline.Grid := .none

def k0_dev1 (d0 : Dev nD) : Nat :=
  let c0_i32_3 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.xori v2 c1_i32_0
  let c1_i32_2 : BitVec 32 := 1#32
  let v8 : BitVec 32 := Scalar.muli v3 c1_i32_2
  let v9 : BitVec 32 := Scalar.addi c0_i32_3 v8
  v9.toNat
def k0_dev2 (d0 : Dev nD) : Nat :=
  let c0_i32_6 : BitVec 32 := 0#32
  let c3_i32 : BitVec 32 := 3#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v4 : BitVec 32 := Scalar.subi c3_i32 v2
  let c1_i32_5 : BitVec 32 := 1#32
  let v10 : BitVec 32 := Scalar.muli v4 c1_i32_5
  let v11 : BitVec 32 := Scalar.addi c0_i32_6 v10
  v11.toNat
def k0_dev3 (d0 : Dev nD) : Nat :=
  let c0_i32_23 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.xori v2 c1_i32_0
  let c1_i32_22 : BitVec 32 := 1#32
  let v25 : BitVec 32 := Scalar.muli v3 c1_i32_22
  let v26 : BitVec 32 := Scalar.addi c0_i32_23 v25
  v26.toNat
def k0_dev4 (d0 : Dev nD) : Nat :=
  let c0_i32_35 : BitVec 32 := 0#32
  let c3_i32 : BitVec 32 := 3#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v4 : BitVec 32 := Scalar.subi c3_i32 v2
  let c1_i32_34 : BitVec 32 := 1#32
  let v35 : BitVec 32 := Scalar.muli v4 c1_i32_34
  let v36 : BitVec 32 := Scalar.addi c0_i32_35 v35
  v36.toNat
def k0_dev5 (d0 : Dev nD) : Nat :=
  let c0_i32_88 : BitVec 32 := 0#32
  let c3_i32 : BitVec 32 := 3#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v4 : BitVec 32 := Scalar.subi c3_i32 v2
  let c1_i32_87 : BitVec 32 := 1#32
  let v77 : BitVec 32 := Scalar.muli v4 c1_i32_87
  let v78 : BitVec 32 := Scalar.addi c0_i32_88 v77
  v78.toNat
def k0_dev6 (d0 : Dev nD) : Nat :=
  let c0_i32_100 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.xori v2 c1_i32_0
  let c1_i32_99 : BitVec 32 := 1#32
  let v87 : BitVec 32 := Scalar.muli v3 c1_i32_99
  let v88 : BitVec 32 := Scalar.addi c0_i32_100 v87
  v88.toNat
-- ==== ReferenceIdeal.lean ====
abbrev S4x256x256 : Shape := ⟨3, ![4, 256, 256]⟩
abbrev S_ : Shape := ⟨0, ![]⟩
abbrev S256x256 : Shape := ⟨2, ![256, 256]⟩

abbrev nBuf : Space → Nat
  | .hbm => 4
  | .vmem => 0
  | .smem => 0
  | _ => 0

abbrev bufTy : (tb : Table) → Fin (tcTables nBuf tb) → BufTy
  | .hbm, ⟨0, _⟩ => ⟨S4x256x256, .f32⟩
  | .hbm, ⟨1, _⟩ => ⟨S_, .f32⟩
  | .hbm, ⟨2, _⟩ => ⟨S256x256, .f32⟩
  | .hbm, ⟨3, _⟩ => ⟨S256x256, .bf16⟩
  | _, _ => ⟨S4x256x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== Proof.Slots.lean ====
/-
The kernel's exchange buffers, slot by slot. A buffer of two slots of 128 × 256 is held slot by slot: `held` says
that a slot's elements are owned at a share and that a load of the slot reads a given vector, `spare` that they are
owned outright at contents nobody remembers. The facts here are stated once, for whichever buffer, slot and device.
-/
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.Writes
public import Idealize.ShloMosaic.Lib.ViewIndex
public import Idealize.ShloMosaic.Lib.Transfers
public import Idealize.ShloMosaic.Lib.Tactic

@[expose] public section

noncomputable section

namespace Cert.TreeProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The rounds protocol's algebra: two duties to a cell at most, named by `Bool`. -/
abbrev UB : Type := URounds (GSem nD τ sig) Bool
/-- The certificate's whole algebra: the pipeline library's part, the protocol's, and the local copies' counters. -/
abbrev UU : Type := UR sig nD τ × (UB × Counters)

local notation "𝕄" => MT nD τ sig Unit (Elt F) ℕ UU ℕ

/-- A buffer of two slots. -/
abbrev Pair : Type := Memref sig .tc .vmem S2x128x256 .bf16

/-- The leading coordinate of slot `s`: the first at `false`. -/
abbrev lead (s : Bool) : ℕ := match s with | false => 0 | true => 1

/-- The slot fits in its pair. -/
theorem lead_inb (s : Bool) : ∀ a : Fin S2x128x256.rank, (![lead s, 0, 0] : Fin 3 → ℕ) a + S1x128x256.size a ≤ S2x128x256.size a := by
  cases s
  · exact inb_S2x128x256_S1x128x256_0_0_0
  · exact inb_S2x128x256_S1x128x256_1_0_0

/-- Slot `s` as the rectangle of its pair that a load or a store names. -/
abbrev rct (s : Bool) : Rect S2x128x256 := Rect.unit (s := S2x128x256) ![lead s, 0, 0] S1x128x256.size (lead_inb s)

/-- Slot `s` as the 128 × 256 window a transfer names. -/
abbrev slot (M : Pair) (s : Bool) : Memref sig .tc .vmem S128x256 .bf16 :=
  (M.slice (rct s) (fun _ => rfl)).squeeze S128x256 squeezes_S1x128x256_S128x256

/-- A buffer of the pair's on device `c`, at its contents. -/
abbrev PBuf (M : Pair) (c : Dev nD) : Type := Buf (Elt F) (M.view.loc (c : Thread nD τ))

/-- The elements of slot `s` of the pair. -/
abbrev els (M : Pair) (s : Bool) : Finset M.view.ty.Idx := (M.access (rct s)).set

/-- What a load of slot `s` reads. -/
def look (M : Pair) (s : Bool) (f : M.view.ty.Contents (Elt F)) : Vec F S1x128x256 .bf16 := (M.access (rct s)).read (Elt F) f

/-- Slot `s` of device `c`'s pair `M`, owned at share `q`, a load of it reading `v`. -/
def held (c : Dev nD) (M : Pair) (s : Bool) (q : PosShare TreeShare) (v : Vec F S1x128x256 .bf16) : sProp 𝕄 :=
  iprop(∃ f : PBuf (F := F) M c, ⌜look M s f = v⌝ ∗ (M.view.loc (c : Thread nD τ) ↦[els M s]{q} f))

/-- Slot `s` of device `c`'s pair `M`, owned outright at whatever contents. -/
def spare (c : Dev nD) (M : Pair) (s : Bool) : sProp 𝕄 :=
  iprop(∃ f : PBuf (F := F) M c, (M.view.loc (c : Thread nD τ) ↦[els M s]{fullShare} f))

omit [FloatOps F] in
instance held_storable (c : Dev nD) (M : Pair) (s : Bool) (q : PosShare TreeShare) (v : Vec F S1x128x256 .bf16) :
    BI.Storable (upEmb : UEmb _ 𝕄) (held (F := F) c M s q v) := by unfold held; infer_instance
omit [FloatOps F] in
instance spare_storable (c : Dev nD) (M : Pair) (s : Bool) : BI.Storable (upEmb : UEmb _ 𝕄) (spare (F := F) c M s) := by
  unfold spare; infer_instance

/-! ## The two slots make the pair -/

/-- The elements under the window are the elements under the rectangle. -/
theorem els_slot (M : Pair) (s : Bool) : (slot M s).view.set = els M s := View.set_reshape _ _

/-- The two rectangles have no index in common. -/
theorem rct_disjoint : Disjoint (rct false).set (rct true).set := by
  refine Finset.disjoint_left.mpr fun i h0 h1 => ?_
  have a := (Rect.mem_set_unit.mp h0 0).2
  have b := (Rect.mem_set_unit.mp h1 0).1
  have a' : (i 0).val < 1 := a
  have b' : 1 ≤ (i 0).val := b
  omega

/-- Nor have the two slots an element in common. -/
theorem els_disjoint (M : Pair) : Disjoint (els M false) (els M true) := by
  exact View.disjoint_slice rct_disjoint

/-- Every index of a pair lies in one of the two rectangles. -/
theorem rct_cover (i : S2x128x256.Idx) : i ∈ (rct false).set ∨ i ∈ (rct true).set := by
  have h0 : (i 0).val < 2 := (i 0).isLt
  have h1 : (i 1).val < 128 := (i 1).isLt
  have h2 : (i 2).val < 256 := (i 2).isLt
  rcases Nat.lt_or_ge (i 0).val 1 with h | h
  · refine .inl (Rect.mem_set_unit.mpr (Fin.forall_fin_succ.mpr ⟨⟨Nat.zero_le _, ?_⟩, Fin.forall_fin_two.mpr ⟨⟨Nat.zero_le _, ?_⟩, ⟨Nat.zero_le _, ?_⟩⟩⟩))
    · show (i 0).val < 0 + 1; omega
    · show (i 1).val < 0 + 128; omega
    · show (i 2).val < 0 + 256; omega
  · refine .inr (Rect.mem_set_unit.mpr (Fin.forall_fin_succ.mpr ⟨⟨?_, ?_⟩, Fin.forall_fin_two.mpr ⟨⟨Nat.zero_le _, ?_⟩, ⟨Nat.zero_le _, ?_⟩⟩⟩))
    · show 1 ≤ (i 0).val; omega
    · show (i 0).val < 1 + 1; omega
    · show (i 1).val < 0 + 128; omega
    · show (i 2).val < 0 + 256; omega

/-- Of a whole buffer, the two slots are every element. -/
theorem els_union (M : Pair) (hM : M.view.set = Finset.univ) : els M false ∪ els M true = Finset.univ := by
  unfold els
  rw [View.set_slice, View.set_slice, ← Finset.map_union,
    show (rct false).set ∪ (rct true).set = Finset.univ from Finset.eq_univ_of_forall fun i => Finset.mem_union.mpr (rct_cover i)]
  exact hM

omit [FloatOps F] in
/-- A whole pair owned outright is its two slots, each spare; -/
theorem pair_split (c : Dev nD) (M : Pair) (hM : M.view.set = Finset.univ) :
    (iprop(∃ f : PBuf (F := F) M c, (M.view.loc (c : Thread nD τ) ↦{fullShare} f)) : sProp 𝕄) ⊢ iprop(spare c M false ∗ spare c M true) := by
  iintro ⟨%f, H⟩
  ihave H := (Entails.of_eq (congrArg (fun I => (M.view.loc (c : Thread nD τ) ↦[I]{fullShare} f : sProp 𝕄)) (els_union M hM).symm)) $$ H
  ihave H := (pointsTo_union (els_disjoint M)).1 $$ H
  icases H with ⟨Ha, Hb⟩
  unfold spare
  isplitl [Ha]
  · iexists f; iexact Ha
  · iexists f; iexact Hb

omit [FloatOps F] in
/-- and the two slots, each spare, are the pair. -/
theorem pair_join (c : Dev nD) (M : Pair) (hM : M.view.set = Finset.univ) :
    iprop(spare c M false ∗ spare c M true) ⊢ (iprop(∃ f : PBuf (F := F) M c, (M.view.loc (c : Thread nD τ) ↦{fullShare} f)) : sProp 𝕄) := by
  unfold spare
  iintro ⟨⟨%f, Ha⟩, ⟨%g, Hb⟩⟩
  iexists ((els M true).piecewise g f)
  ihave H := (pointsTo_join (ℓ := M.view.loc (c : Thread nD τ)) (els_disjoint M)) $$ [Ha Hb]
  · isplitl [Ha] <;> iassumption
  iapply (Entails.of_eq (congrArg (fun I => (M.view.loc (c : Thread nD τ) ↦[I]{fullShare} ((els M true).piecewise g f) : sProp 𝕄)) (els_union M hM)))
  iexact H

/-! ## Shares of a slot -/

omit [FloatOps F] in
/-- A slot held outright is held twice over at half shares: one half for a transfer to borrow, one to load from. -/
theorem held_halve (c : Dev nD) (M : Pair) (s : Bool) (v : Vec F S1x128x256 .bf16) :
    (held c M s fullShare v : sProp 𝕄) ⊢ iprop(held c M s fullShare.left v ∗ held c M s fullShare.right v) := by
  unfold held
  iintro ⟨%f, %hf, H⟩
  ihave H := (pointsTo_share (PosShare.mem_left_op_right fullShare)).1 $$ H
  icases H with ⟨Ha, Hb⟩
  isplitl [Ha]
  · iexists f; isplitr; · (ipureintro; exact hf)
    iexact Ha
  · iexists f; isplitr; · (ipureintro; exact hf)
    iexact Hb

omit [FloatOps F] in
/-- The two halves back together are the slot outright. -/
theorem held_rejoin (c : Dev nD) (M : Pair) (s : Bool) (v v' : Vec F S1x128x256 .bf16) :
    iprop(held c M s fullShare.left v ∗ held c M s fullShare.right v') ⊢ (spare c M s : sProp 𝕄) := by
  unfold held spare
  iintro ⟨⟨%f, -, Ha⟩, ⟨%g, -, Hb⟩⟩
  ihave H := (persistent_entails_right (pointsTo_agree (ℓ := M.view.loc (c : Thread nD τ)) (I := els M s) (J := els M s))) $$ [Ha Hb]
  · isplitl [Ha] <;> iassumption
  icases H with ⟨%h, Ha, Hb⟩
  iexists f
  iapply (pointsTo_share (PosShare.mem_left_op_right fullShare)).2
  isplitl [Ha]; · iexact Ha
  iapply (Entails.of_eq (pointsTo_congr fun i hi => (h i (Finset.mem_inter.mpr ⟨hi, hi⟩)).1.symm))
  iexact Hb

omit [FloatOps F] in
/-- A slot held outright is in particular spare. -/
theorem held_spare (c : Dev nD) (M : Pair) (s : Bool) (v : Vec F S1x128x256 .bf16) : (held c M s fullShare v : sProp 𝕄) ⊢ spare c M s := by
  unfold held spare
  iintro ⟨%f, -, H⟩
  iexists f; iexact H

/-! ## What a slot reads after a store and after a transfer -/

omit [FloatOps F] in
/-- After a store of `w` over slot `s`, a load of the slot reads `w`. -/
theorem look_store (M : Pair) (s : Bool) (f : M.view.ty.Contents (Elt F)) (w : Vec F S1x128x256 .bf16) :
    look M s ((M.access (rct s)).write (Elt F) f w Finset.univ) = w := View.read_write_univ _ _

omit [FloatOps F] in
/-- After a transfer from one slot to another, the second reads what the first does. -/
theorem look_move (M M' : Pair) (s : Bool) (f : M.view.ty.Contents (Elt F)) (f' : M'.view.ty.Contents (Elt F)) :
    look M' s ((slot M' s).view.write (Elt F) f' ((slot M s).view.read (Elt F) f) Finset.univ) = look M s f := by
  unfold look
  refine (congrArg _ (View.write_reshape_univ _ _ _ _)).trans ((View.read_write_univ _ _).trans ?_)
  funext x
  show (M.access (rct s)).read (Elt F) f (Shape.reshapeEquiv squeezes_S1x128x256_S128x256.numel_eq ((Shape.reshapeEquiv squeezes_S1x128x256_S128x256.numel_eq).symm x)) = _
  rw [Equiv.apply_symm_apply]

end Cert.TreeProof

end
-- ==== Proof.Protocol.lean ====
/-
The handshake's and the four transfers' protocol. Every device works with two others: the one whose number differs in
the last bit and the one whose number is three minus its own. Half `h` of the block and step `s` make a transfer, whose
partner is the first of the two if `h` and `s` agree and the second if they differ. Nine semaphores of a device take
part, its barrier and the send and receive semaphores of the four transfers; they are indexed by `Key` and everything
about them is said once for an index.
-/
module

public import proofs.«01_k».proof.Proof.Slots

@[expose] public section

noncomputable section

namespace Cert.TreeProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-- Where the pipeline library's part of the algebra lies, -/
abbrev EP : Emb (UR sig nD τ) (MT nD τ sig Unit (Elt F) ℕ UU ℕ) := embL
/-- and where the protocol's does. -/
abbrev ER : Emb UB (MT nD τ sig Unit (Elt F) ℕ UU ℕ) := (Emb.inl : Emb UB (UB × Counters)).trans embR

instance ER_landsIn : (ER : Emb UB (MT nD τ sig Unit (Elt F) ℕ UU ℕ)).LandsIn (upEmb : UEmb _ (MT nD τ sig Unit (Elt F) ℕ UU ℕ)) := by
  unfold ER embR; infer_instance

/-! ## The partners -/

/-- The partner of device `c` in direction `d`: its neighbour in the last bit, or its mirror image. -/
def pr (d : Bool) (c : Dev nD) : Dev nD := match d with
  | false => (![1, 0, 3, 2] : Fin 4 → Fin 4) c
  | true => (![3, 2, 1, 0] : Fin 4 → Fin 4) c

/-- Partners are so mutually. -/
theorem pr_pr (d : Bool) (c : Dev nD) : pr d (pr d c) = c := by revert d c; decide

/-- The exchange in direction `d`, as a permutation of the devices. -/
def prE (d : Bool) : Dev nD ≃ Dev nD := ⟨pr d, pr d, pr_pr d, pr_pr d⟩

/-- The devices the program's arithmetic names: the two it signals, -/
theorem dev1_eq (c : Dev nD) : (⟨k0_dev1 c, k0_dev1_lt c⟩ : Dev nD) = pr false c := by revert c; decide +kernel
theorem dev2_eq (c : Dev nD) : (⟨k0_dev2 c, k0_dev2_lt c⟩ : Dev nD) = pr true c := by revert c; decide +kernel
/-- the two it sends to first, -/
theorem dev3_eq (c : Dev nD) : (⟨k0_dev3 c, k0_dev3_lt c⟩ : Dev nD) = pr false c := by revert c; decide +kernel
theorem dev4_eq (c : Dev nD) : (⟨k0_dev4 c, k0_dev4_lt c⟩ : Dev nD) = pr true c := by revert c; decide +kernel
/-- and the two it sends to second. -/
theorem dev5_eq (c : Dev nD) : (⟨k0_dev5 c, k0_dev5_lt c⟩ : Dev nD) = pr true c := by revert c; decide +kernel
theorem dev6_eq (c : Dev nD) : (⟨k0_dev6 c, k0_dev6_lt c⟩ : Dev nD) = pr false c := by revert c; decide +kernel

/-! ## Buffers and semaphores -/

/-- The pair half `h` is sent from, -/
abbrev outM (h : Bool) : Pair := match h with | false => Memref.whole cc0_scratch2 | true => Memref.whole cc0_scratch4
/-- and the pair it is received into. -/
abbrev inM (h : Bool) : Pair := match h with | false => Memref.whole cc0_scratch3 | true => Memref.whole cc0_scratch5

/-- Entry `(h, s)` of a two by two array of semaphores. -/
abbrev semAt (A : DmaSems sig S2x2) (h s : Bool) : DmaSem sig := match h, s with
  | false, false => ((A.slice (Rect.unit (s := S2x2) ![0, 0] S1x1.size inb_S2x2_S1x1_0_0)).squeeze S_ squeezes_S1x1_S_).sem
  | false, true => ((A.slice (Rect.unit (s := S2x2) ![0, 1] S1x1.size inb_S2x2_S1x1_0_1)).squeeze S_ squeezes_S1x1_S_).sem
  | true, false => ((A.slice (Rect.unit (s := S2x2) ![1, 0] S1x1.size inb_S2x2_S1x1_1_0)).squeeze S_ squeezes_S1x1_S_).sem
  | true, true => ((A.slice (Rect.unit (s := S2x2) ![1, 1] S1x1.size inb_S2x2_S1x1_1_1)).squeeze S_ squeezes_S1x1_S_).sem

/-- The two semaphores of the copies in and out. -/
abbrev copyS (o : Bool) : DmaSem sig := match o with
  | false => ((cc0_scratch6.slice (Rect.unit (s := S2) ![0] S1.size inb_S2_S1_0)).squeeze S_ squeezes_S1_S_).sem
  | true => ((cc0_scratch6.slice (Rect.unit (s := S2) ![1] S1.size inb_S2_S1_1)).squeeze S_ squeezes_S1_S_).sem

/-- The barrier semaphore. -/
abbrev barS : Sem sig := (SemArray.scalar (sig.barrier 0 rfl) : Sems sig S_).sem

/-- A device's semaphores in the protocol: the barrier, or the send (`false`) or receive (`true`) semaphore of the
    transfer of half `h` at step `s`. -/
abbrev Key : Type := Option (Bool × Bool × Bool)

/-- The semaphore of an index. -/
abbrev csem (k : Key) : SemLoc sig := match k with
  | none => .reg barS
  | some (false, h, s) => .dma (semAt cc0_scratch7 h s)
  | some (true, h, s) => .dma (semAt cc0_scratch8 h s)

/-- Different indices, different semaphores. -/
theorem csem_injective : Function.Injective csem := by decide +kernel

open Classical in
/-- The index of a semaphore, if it has one. -/
def dec (sm : SemLoc sig) : Option Key := if h : ∃ k, csem k = sm then some h.choose else none

/-- The index of an index's semaphore is that index. -/
theorem dec_csem (k : Key) : dec (csem k) = some k := by
  have h : ∃ k', csem k' = csem k := ⟨k, rfl⟩
  unfold dec
  rw [dif_pos h]
  exact congrArg some (csem_injective h.choose_spec)

/-- The copies' semaphores have none. -/
theorem dec_copy (o : Bool) : dec (.dma (copyS o)) = none := by
  unfold dec
  refine dif_neg ?_
  revert o
  decide +kernel

/-- Index `k`'s cell on device `c`. -/
abbrev cell (c : Dev nD) (k : Key) : GSem nD τ sig := ((c : Thread nD τ), csem k)

/-- Different devices or indices, different cells. -/
theorem cell_injective : Function.Injective (fun ck : Dev nD × Key => cell ck.1 ck.2) := by
  rintro ⟨c, k⟩ ⟨c', k'⟩ h
  have h1 : c = c' := congrArg (fun g : GSem nD τ sig => g.1.1) h
  have h2 : k = k' := csem_injective (congrArg Prod.snd h)
  rw [h1, h2]

/-- The credit of one slot's transfer. -/
abbrev N : ℕ := (slot (inM false) false).view.dmaCredit
theorem N_pos : 0 < N := View.dmaCredit_pos _ (by decide)
/-- It is the same for every slot. -/
theorem credit_in (h s : Bool) : (slot (inM h) s).view.dmaCredit = N := by cases h <;> cases s <;> rfl
theorem credit_out (h s : Bool) : (slot (outM h) s).view.dmaCredit = N := by cases h <;> cases s <;> rfl

/-! ## Contents -/

section Contents

variable (X : Dev nD → Vec F S1x256x256 .f32)

/-- Half `h` of device `c`'s block, rounded: what it sends first. -/
def val0 (h : Bool) (c : Dev nD) : Vec F S1x128x256 .bf16 := match h with
  | false => k0_pay2 (X c)
  | true => k0_pay3 (X c)

/-- The sum of two devices' half: what it sends second. -/
def val1 (h : Bool) (c : Dev nD) : Vec F S1x128x256 .bf16 := match h with
  | false => k0_pay4 (val0 X false c) (val0 X false (pr false c))
  | true => k0_pay5 (val0 X true c) (val0 X true (pr true c))

/-- What device `c` sends of half `h` at step `s`. -/
def val (h s : Bool) (c : Dev nD) : Vec F S1x128x256 .bf16 := match s with
  | false => val0 X h c
  | true => val1 X h c

/-- The upper and the lower half of the result. -/
def upper (c : Dev nD) : Vec F S128x256 .bf16 := k0_pay6 (val X false true c) (val X false true (pr true c))
def lower (c : Dev nD) : Vec F S128x256 .bf16 := k0_pay8 (k0_pay7 (val X true true c) (val X true true (pr false c)))

/-! ## The schedule -/

/-- What the partner in direction `d` hands device `c` with its signal: the two slots of its own that `c` will send
    into. -/
def barPay (c : Dev nD) (d : Bool) : sProp 𝕄 := iprop(spare (pr d c) (inM d) false ∗ spare (pr d c) (inM !d) true)
/-- What the end of a sending hands back: the half share of the slot it borrowed. -/
def outPay (c : Dev nD) (h s : Bool) : sProp 𝕄 := held c (outM h) s fullShare.left (val X h s c)
/-- What the arrival hands over: the slot received into, reading what the partner sent. -/
def inPay (c : Dev nD) (h s : Bool) : sProp 𝕄 := held c (inM h) s fullShare (val X h s (pr (xor h s) c))

/-- The payload of an index's duty. -/
def pay (c : Dev nD) (k : Key) (d : Bool) : sProp 𝕄 := match k with
  | none => barPay c d
  | some (false, h, s) => outPay X c h s
  | some (true, h, s) => inPay X c h s

/-- The duties of an index: the barrier two, one to each partner; a transfer's semaphore one. -/
def duts (k : Key) : Finset Bool := match k with
  | none => Finset.univ
  | some _ => {false}

/-- What a duty of an index adds. -/
def amt (k : Key) : ℕ := match k with
  | none => 1
  | some _ => N

theorem amt_pos (k : Key) : 0 < amt k := by
  rcases k with _ | k
  · exact Nat.one_pos
  · exact N_pos

/-- One round of the duties above at the cells of the protocol. -/
def Rd : Rounds.Schedule (GSem nD τ sig) Bool 𝕄 where
  duties g r := if r = 0 ∧ g.1.2 = .tc then ((dec g.2).map duts).getD ∅ else ∅
  unitless _ := False
  amount g _ _ := ((dec g.2).map amt).getD 1
  payload g _ d := ((dec g.2).map fun k => pay X g.1.1 k d).getD iprop(emp)
  amount_pos g _ _ _ := by
    cases dec g.2 with
    | none => exact Nat.one_pos
    | some k => exact amt_pos k

instance pay_storable (c : Dev nD) (k : Key) (d : Bool) : BI.Storable (upEmb : UEmb _ 𝕄) (pay X c k d) := by
  unfold pay barPay outPay inPay
  rcases k with _ | ⟨_ | _, h, s⟩ <;> infer_instance

instance Rd_payload_storable (g : GSem nD τ sig) (r : ℕ) (d : Bool) :
    BI.Storable (upEmb : UEmb _ 𝕄) ((Rd (F := F) X).payload g r d) := by
  show BI.Storable upEmb (((dec g.2).map fun k => pay X g.1.1 k d).getD iprop(emp))
  cases dec g.2 with
  | none => show BI.Storable upEmb iprop(emp); infer_instance
  | some k => exact pay_storable X g.1.1 k d

omit [FloatOps F] in
theorem dec_cell (c : Dev nD) (k : Key) : dec (cell c k).2 = some k := dec_csem k

/-- The schedule at a cell of the protocol: its duties, -/
theorem duties_cell (c : Dev nD) (k : Key) : (Rd (F := F) X).duties (cell c k) 0 = duts k := by
  show (if 0 = 0 ∧ (cell c k).1.2 = .tc then ((dec (cell c k).2).map duts).getD ∅ else ∅) = _
  rw [if_pos ⟨rfl, rfl⟩, dec_cell]; rfl
/-- none after the first round, -/
theorem duties_later (g : GSem nD τ sig) : ∀ r, 1 ≤ r → (Rd (F := F) X).duties g r = ∅ :=
  fun r hr => if_neg fun h => by omega
/-- their amounts, -/
theorem amount_cell (c : Dev nD) (k : Key) (d : Bool) : (Rd (F := F) X).amount (cell c k) 0 d = amt k := by
  show ((dec (cell c k).2).map amt).getD 1 = _
  rw [dec_cell]; rfl
/-- and their payloads. -/
theorem payload_cell (c : Dev nD) (k : Key) (d : Bool) : (Rd (F := F) X).payload (cell c k) 0 d = pay X c k d := by
  show ((dec (cell c k).2).map fun k => pay X c k d).getD iprop(emp) = _
  rw [dec_cell]; rfl

/-- A barrier's round adds two, -/
theorem expect_bar (c : Dev nD) : (Rd (F := F) X).expect (cell c none) 0 = 2 := by
  unfold Schedule.expect Schedule.amountOf
  rw [duties_cell, Finset.sum_congr rfl fun d _ => amount_cell X c none d]
  rfl
/-- a transfer's its credit. -/
theorem expect_dma (c : Dev nD) (k : Bool × Bool × Bool) : (Rd (F := F) X).expect (cell c (some k)) 0 = N := by
  unfold Schedule.expect Schedule.amountOf
  rw [duties_cell, Finset.sum_congr rfl fun d _ => amount_cell X c (some k) d]
  exact Finset.sum_singleton _ _

/-- A barrier's round hands over both partners' payloads, -/
theorem rest_bar (c : Dev nD) : bigSep ((Rd (F := F) X).duties (cell c none) 0 \ ∅) (fun d => (Rd (F := F) X).payload (cell c none) 0 d)
    = iprop(barPay c false ∗ barPay c true) := by
  rw [Finset.sdiff_empty, duties_cell, bigSep_congr fun d _ => payload_cell X c none d]
  exact bigSep_univ_eq_bigSepL [false, true] (by decide) (by decide) _
/-- a transfer's the one. -/
theorem rest_dma (c : Dev nD) (k : Bool × Bool × Bool) :
    bigSep ((Rd (F := F) X).duties (cell c (some k)) 0 \ ∅) (fun d => (Rd (F := F) X).payload (cell c (some k)) 0 d) = pay X c (some k) false := by
  rw [Finset.sdiff_empty, duties_cell, bigSep_congr fun d _ => payload_cell X c (some k) d]
  exact bigSep_singleton

end Contents

/-! ## What is owed, and the levels -/

/-- The credit device `c` owes the receive cell of its transfer `(h, s)`, -/
abbrev oweR (c : Dev nD) (h s : Bool) : CellTallies nD τ sig Unit := tallyAt (cell (pr (xor h s) c) (some (true, h, s))) () N
/-- and the unit it owes its partner's barrier. -/
abbrev oweB (c : Dev nD) (d : Bool) : CellTallies nD τ sig Unit := tallyAt (cell (pr d c) none) () 1

/-- What is owed when the second step's transfers are left, -/
def O₂ (c : Dev nD) : CellTallies nD τ sig Unit := oweR c true true + oweR c false true
/-- when all four are, -/
def O₁ (c : Dev nD) : CellTallies nD τ sig Unit := O₂ c + oweR c true false + oweR c false false
/-- and at launch. -/
def O₀ (c : Dev nD) : CellTallies nD τ sig Unit := O₁ c + oweB c true + oweB c false

/-- Every cell of a device's core is in the waiting order. -/
def L (g : GSem nD τ sig) : Finset Unit := if g.1.2 = .tc then {()} else ∅

/-- An index's place in it: barriers before the first step's arrivals, those before the second's. -/
def lev (k : Key) : ℕ := match k with
  | none => 1
  | some (false, _, _) => 0
  | some (true, _, false) => 2
  | some (true, _, true) => 3
/-- A cell's place; all others come first. -/
def lv (g : GSem nD τ sig) (_ : Unit) : ℕ := ((dec g.2).map lev).getD 0

theorem L_of_ne (g : GSem nD τ sig) (h : g.1.2 ≠ .tc) : L g = ∅ := if_neg h
theorem L_tc (c : Dev nD) (sm : SemLoc sig) : L ((c : Thread nD τ), sm) = {()} := if_pos rfl
theorem lv_cell (c : Dev nD) (k : Key) : lv (cell c k) () = lev k := by unfold lv; rw [dec_cell]; rfl
theorem lv_copy (c : Dev nD) (o : Bool) : lv ((c : Thread nD τ), .dma (copyS o)) () = 0 := by unfold lv; rw [dec_copy]; rfl

/-- Everything in `O` is owed to a cell of the protocol placed after `n`. -/
def Above (n : ℕ) (O : CellTallies nD τ sig Unit) : Prop := ∀ g u, 0 < O g u → ∃ c k, g = cell c k ∧ n < lev k

theorem Above.tally {n : ℕ} (c : Dev nD) (k : Key) (a : ℕ) (h : n < lev k) : Above n (tallyAt (cell c k) () a) := by
  intro g u hg
  rw [tallyAt_apply] at hg
  by_cases e : g = cell c k ∧ u = ()
  · exact ⟨c, k, e.1, h⟩
  · rw [if_neg e] at hg; exact absurd hg (Nat.lt_irrefl 0)

theorem Above.add {n : ℕ} {O O' : CellTallies nD τ sig Unit} (h : Above n O) (h' : Above n O') : Above n (O + O') := by
  intro g u hg
  rw [Pi.add_apply, Finsupp.add_apply] at hg
  rcases Nat.eq_zero_or_pos (O g u) with e | e
  · exact h' g u (by omega)
  · exact h g u e

theorem above_O₂ (c : Dev nD) : Above 2 (O₂ c) := (Above.tally _ _ _ (by decide)).add (Above.tally _ _ _ (by decide))
theorem above_O₁ (c : Dev nD) : Above 1 (O₁ c) :=
  (((Above.tally _ _ _ (by decide)).add (Above.tally _ _ _ (by decide))).add (Above.tally _ _ _ (by decide))).add (Above.tally _ _ _ (by decide))

omit [FloatOps F] in
/-- A wait is in order at a cell placed no later than what everything owed is placed after. -/
theorem mayWait (c : Dev nD) (sm : SemLoc sig) (n : ℕ) (O : CellTallies nD τ sig Unit) (hsm : lv ((c : Thread nD τ), sm) () ≤ n)
    (hO : Above n O) : (levAts L lv : sProp 𝕄) ⊢ MayWait (c : Thread nD τ) sm () O :=
  MayOwe.of_cut (L := L) (lev := lv) n (fun p hp => by rw [Finset.mem_singleton.mp hp, L_tc]; exact Finset.mem_singleton_self _)
    (fun g u hg => by obtain ⟨c', k, rfl, -⟩ := hO g u hg; rw [L_tc]; exact Finset.mem_singleton_self _)
    (fun p hp => by rw [Finset.mem_singleton.mp hp]; exact hsm)
    (fun g u hg => by obtain ⟨c', k, rfl, h⟩ := hO g u hg; rw [show u = () from rfl, lv_cell]; exact h)

end Cert.TreeProof

end
-- ==== Proof.Steps.lean ====
/-
One rule for each kind of effect of the kernel, over the slots of `Slots` and the schedule of `Protocol`: loads and
stores of a slot, a transfer's sending, its two waits, the signals and the wait of the barrier, and the copies in and
out. Each is stated once, for whichever device, half and step.
-/
module

public import proofs.«01_k».proof.Proof.Protocol

@[expose] public section

noncomputable section

namespace Cert.TreeProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-- The kernel has no loops to bound. -/
abbrev 𝒱₀ : Variants := Variants.none

/-- Where the copies' counters lie in the algebra. -/
abbrev EC : UEmb Counters (MT nD τ sig Unit (Elt F) ℕ UU ℕ) := countersEmb

/-- A program of a device's core. -/
abbrev CoreProg (F : FTy → Type) [FloatOps F] (α : Type) : Type 1 := Prog (TpuEff nD τ sig (Elt F) Λ₀ .tc) α

/-- Running a program on device `c`'s core. -/
abbrev runs (c : Dev nD) {α : Type} (p : CoreProg F α) (Q : α → sProp 𝕄) : sProp 𝕄 :=
  wp frame (wpE (defs₀ (F := F)) 𝒱₀ (c : Thread nD τ) none) Set.univ p Q

/-- What device `c` owes, whatever it has waited for so far. -/
def owing (c : Dev nD) (O : CellTallies nD τ sig Unit) : sProp 𝕄 := iprop(∃ W : Waits sig Unit, owes (c : Thread nD τ) O W)

variable (X : Dev nD → Vec F S1x256x256 .f32)

/-- What every device may know of the protocol's cells: their invariants, under the names `K`, and that each is at its
    first round. -/
def records (K : Dev nD × Key → ℕ) : sProp 𝕄 :=
  iprop((bigSep Finset.univ fun ck : Dev nD × Key => cellInv ER (Rd X) (K ck) (cell ck.1 ck.2))
    ∗ bigSep Finset.univ fun ck : Dev nD × Key => reached ER (cell ck.1 ck.2) 0)

instance records_persistent (K : Dev nD × Key → ℕ) : BI.Persistent (records X K) := by unfold records; infer_instance

/-- One cell's invariant, -/
theorem records_inv (K : Dev nD × Key → ℕ) (c : Dev nD) (k : Key) : records X K ⊢ cellInv ER (Rd X) (K (c, k)) (cell c k) := by
  unfold records
  iintro ⟨H, -⟩
  iapply (show (bigSep Finset.univ fun ck : Dev nD × Key => (cellInv ER (Rd X) (K ck) (cell ck.1 ck.2) : sProp 𝕄)) ⊢ cellInv ER (Rd X) (K (c, k)) (cell c k)
    from bigSep_elim (Finset.mem_univ (c, k)))
  iexact H
/-- and that it is at its first round. -/
theorem records_reached (K : Dev nD × Key → ℕ) (c : Dev nD) (k : Key) : records X K ⊢ reached ER (cell c k) 0 := by
  unfold records
  iintro ⟨-, H⟩
  iapply (show (bigSep Finset.univ fun ck : Dev nD × Key => (reached ER (cell ck.1 ck.2) 0 : sProp 𝕄)) ⊢ reached ER (cell c k) 0
    from bigSep_elim (Finset.mem_univ (c, k)))
  iexact H

section Rules

variable (K : Dev nD × Key → ℕ) (c : Dev nD)

/-! ## Loads and stores of a slot -/

/-- A load of a slot held at some share continues at what the slot is known to read. -/
theorem step_load {α : Type} {Q : α → sProp 𝕄} (M : Pair) (s : Bool) (q : PosShare TreeShare) (v : Vec F S1x128x256 .bf16)
    {hl : M.view.LoadsAt (rct s).toLoadRect} {k : Vec F S1x128x256 .bf16 → CoreProg F α} :
    held c M s q v ⊢ iprop((held c M s q v -∗ runs c (k v) Q) -∗ runs c (.op (.load M (rct s).toLoadRect hl) k) Q) := by
  unfold held
  iintro ⟨%f, %hf, H⟩ Hk
  iapply (wp_load_rect 𝒱₀ (c : Thread nD τ) none Set.univ (m := M) (r := rct s) (S := els M s) (Finset.Subset.refl _)) $$ H
  iintro H
  rw [show (M.access (rct s)).read (Elt F) f = v from hf]
  iapply Hk
  iexists f
  isplitr; · (ipureintro; exact hf)
  iexact H

/-- A load of a spare slot continues at something. -/
theorem step_load_spare {α : Type} {Q : α → sProp 𝕄} (M : Pair) (s : Bool) {hl : M.view.LoadsAt (rct s).toLoadRect} {k : Vec F S1x128x256 .bf16 → CoreProg F α} :
    spare c M s ⊢ iprop((∀ x, spare c M s -∗ runs c (k x) Q) -∗ runs c (.op (.load M (rct s).toLoadRect hl) k) Q) := by
  unfold spare
  iintro ⟨%f, H⟩ Hk
  iapply (wp_load_rect 𝒱₀ (c : Thread nD τ) none Set.univ (m := M) (r := rct s) (S := els M s) (Finset.Subset.refl _)) $$ H
  iintro H
  iapply Hk
  iexists f
  iexact H

/-- A store over a spare slot makes it read what was stored. -/
theorem step_store {α : Type} {Q : α → sProp 𝕄} (M : Pair) (s : Bool) (w : Vec F S1x128x256 .bf16) {hx : (M.access (rct s)).Stores Finset.univ}
    {hm : (Finset.univ : Finset (rct s).shape.Idx) = Finset.univ ∨ ∀ a, (rct s).stride a = 1} {k : PUnit → CoreProg F α} :
    spare c M s ⊢ iprop((held c M s fullShare w -∗ runs c (k ⟨⟩) Q) -∗ runs c (.op (.store M (rct s) w Finset.univ hx hm) k) Q) := by
  unfold spare
  iintro ⟨%f, H⟩ Hk
  iapply (wp_store 𝒱₀ (c : Thread nD τ) none Set.univ (m := M) (r := rct s) (S := els M s) (Mk := Finset.univ) (Finset.Subset.refl _)) $$ H
  iintro H
  iapply Hk
  unfold held
  iexists ((M.access (rct s)).write (Elt F) f w Finset.univ)
  isplitr; · (ipureintro; exact look_store M s f w)
  iexact H

/-! ## The barrier -/

/-- A device signals its partner in direction `d`, handing over the two slots the partner will send into. -/
theorem step_signal {α : Type} {Q : α → sProp 𝕄} (d : Bool) (n : Dev nD) (hn : n = pr d c) (O : CellTallies nD τ sig Unit) {k : PUnit → CoreProg F α} :
    iprop(records X K ∗ owing c (O + oweB c d) ∗ dutyTok ER (cell (pr d c) none) 0 d ∗ spare c (inM d) false ∗ spare c (inM !d) true)
      ⊢ iprop((owing c O -∗ runs c (k ⟨⟩) Q) -∗ runs c (.op (.semSignal (n : Thread nD τ) barS 1) k) Q) := by
  subst hn
  unfold owing
  iintro ⟨#HR, ⟨%W, HO⟩, Htok, Ha, Hb⟩ Hk
  iapply (Rounds.wp_signal 𝒱₀ ER (Rd X) (c : Thread nD τ) none (dst := (pr d c : Thread nD τ)) (sem := barS) (r := 0) (κ := K (pr d c, none)) (d := d)
      ((duties_cell X (pr d c) none).symm ▸ Finset.mem_univ d) (amount_cell X (pr d c) none d) () O rfl) $$ [HO Htok Ha Hb]
  · isplitr; · iapply (records_inv X K (pr d c) none); iexact HR
    isplitl [HO]; · iexact HO
    isplitl [Htok]; · iexact Htok
    isplitl [Ha Hb]
    · rw [show (Rd X).payload ((pr d c : Thread nD τ), .reg barS) 0 d = _ from payload_cell X (pr d c) none d]; unfold pay barPay; simp only [pr_pr]
      isplitl [Ha] <;> iassumption
    · iapply (records_reached X K (pr d c) none); iexact HR
  iintro HO
  iapply Hk
  iexists W
  iexact HO

/-- The wait on the barrier brings both partners' slots, and the barrier's counter stays at zero. -/
theorem step_wait_bar {α : Type} {Q : α → sProp 𝕄} (O : CellTallies nD τ sig Unit) (hO : Above 1 O) {k : PUnit → CoreProg F α} :
    iprop(records X K ∗ levAts L lv ∗ cred (tallyAt (cell c none) () 2) ∗ owing c O ∗ atPos ER (cell c none) 0 ∅ 0)
      ⊢ iprop(((owing c O ∗ semVal (cell c none) 0 ∗ barPay c false ∗ barPay c true) -∗ runs c (k ⟨⟩) Q)
          -∗ runs c (.op (.semWait barS 2) k) Q) := by
  unfold owing
  iintro ⟨#HR, #Hlev, Hc, ⟨%W, HO⟩, Hat⟩ Hk
  iapply (Rounds.wp_wait_rest_token 𝒱₀ ER (Rd X) (c : Thread nD τ) none (κ := K (c, none))
      (wpE_semWait_eq 𝒱₀ (c : Thread nD τ) none Set.univ) (Set.mem_univ _) () (O := O) (W := W) (R := 0) (m := 0) (T := ∅)
      ((Nat.zero_add 2).trans (expect_bar X c).symm)) $$ [Hc HO Hat]
  · isplitr; · iapply (records_inv X K c none); iexact HR
    isplitl [Hc]; · iexact Hc
    isplitl [HO]; · iexact HO
    isplitr
    · iapply (mayWait c (csem none) 1 O (by rw [show lv ((c : Thread nD τ), csem none) () = lev none from lv_cell c none]; exact Nat.le_refl 1) hO); iexact Hlev
    iexact Hat
  iintro ⟨HO, Hat, -, Hpay⟩
  ihave Hp := (Entails.of_eq (rest_bar X c)) $$ Hpay
  imod (Rounds.cell_close ER (Rd X) (Set.mem_univ (K (c, none))) (fun h => h) (R := 0 + 1) (duties_later X (cell c none))) $$ [Hat] with Hz
  · isplitr; · iapply (records_inv X K c none); iexact HR
    iexact Hat
  iapply Hk
  isplitl [HO]; · iexists (insert (SemLoc.reg barS, ()) W); iexact HO
  isplitl [Hz] <;> iassumption

/-! ## The transfers -/

set_option maxHeartbeats 1000000 in
/-- Device `c` sends half `h` at step `s`, lending the slot's half share and filling the partner's slot. -/
theorem step_send {α : Type} {Q : α → sProp 𝕄} (h s : Bool) (n : Dev nD) (hn : n = pr (xor h s) c) (O : CellTallies nD τ sig Unit)
    {hsc : (slot (inM h) s : Memref sig (Dev.tc n : Thread nD τ).2.kind .vmem S128x256 .bf16).view.ref.isScScratch = false}
    {hsrc : (slot (outM h) s).view.WordExact} {hdst : (slot (inM h) s).view.WordExact}
    {hsem : DmaTarget.Typed .vmem (.dma (semAt cc0_scratch8 h s)) (.remote (Dev.tc n : Thread nD τ) (slot (inM h) s) (.dma (semAt cc0_scratch7 h s)) hsc)}
    {k : PUnit → CoreProg F α} :
    iprop(records X K ∗ owing c (O + oweR c h s) ∗ held c (outM h) s fullShare.left (val X h s c) ∗ spare (pr (xor h s) c) (inM h) s
        ∗ dutyTok ER (cell c (some (false, h, s))) 0 false ∗ dutyTok ER (cell (pr (xor h s) c) (some (true, h, s))) 0 false)
      ⊢ iprop(((owing c O ∗ cred (tallyAt (cell c (some (false, h, s))) () N)) -∗ runs c (k ⟨⟩) Q)
          -∗ runs c (.op (.enqueueDma (slot (outM h) s) (.remote (Dev.tc n : Thread nD τ) (slot (inM h) s) (.dma (semAt cc0_scratch7 h s)) hsc)
              (.dma (semAt cc0_scratch8 h s)) hsrc hdst hsem) k) Q) := by
  subst hn
  unfold owing held spare
  iintro ⟨#HR, ⟨%W, HO⟩, ⟨%f, %hf, Hs⟩, ⟨%g, Hd⟩, Ht, Ht'⟩ Hk
  rw [← els_slot (outM h) s, ← els_slot (inM h) s]
  iapply (Rounds.wp_send_pointsTo 𝒱₀ ER (Rd X) (c : Thread nD τ) none (κ₁ := K (c, some (false, h, s))) (κ₂ := K (pr (xor h s) c, some (true, h, s)))
      (c' := (Dev.tc (pr (xor h s) c) : Thread nD τ)) (src := slot (outM h) s) (dst := slot (inM h) s) (sS := .dma (semAt cc0_scratch7 h s)) (sem := .dma (semAt cc0_scratch8 h s))
      (r₁ := 0) (r₂ := 0) (d₁ := false) (d₂ := false) (fs := f) (fd := g)
      ((duties_cell X c (some (false, h, s))).symm ▸ Finset.mem_singleton_self false)
      ((duties_cell X (pr (xor h s) c) (some (true, h, s))).symm ▸ Finset.mem_singleton_self false)
      () () N (credit_in h s) (amount_cell X c (some (false, h, s)) false) (amount_cell X (pr (xor h s) c) (some (true, h, s)) false) O rfl (W := W)
      (by
        rw [show (Rd X).payload ((c : Thread nD τ), .dma (semAt cc0_scratch7 h s)) 0 false = _ from payload_cell X c (some (false, h, s)) false]
        show _ ⊢ outPay X c h s
        unfold outPay held
        iintro H
        iexists f
        isplitr; · (ipureintro; exact hf)
        rw [← els_slot (outM h) s]; iexact H)
      (by
        rw [show (Rd X).payload ((pr (xor h s) c : Thread nD τ), .dma (semAt cc0_scratch8 h s)) 0 false = _ from
          payload_cell X (pr (xor h s) c) (some (true, h, s)) false]
        show _ ⊢ inPay X (pr (xor h s) c) h s
        unfold inPay held
        rw [pr_pr]
        iintro H
        iexists ((slot (inM h) s).view.write (Elt F) g ((slot (outM h) s).view.read (Elt F) f) Finset.univ)
        isplitr
        · ipureintro; exact (look_move (outM h) (inM h) s f g).trans hf
        rw [← els_slot (inM h) s]; iexact H)) $$ [Hs Hd HO Ht Ht']
  · isplitr; · iapply (records_inv X K c (some (false, h, s))); iexact HR
    isplitr; · iapply (records_inv X K (pr (xor h s) c) (some (true, h, s))); iexact HR
    isplitl [Hs]; · iexact Hs
    isplitl [Hd]; · iexact Hd
    isplitl [HO]; · iexact HO
    isplitl [Ht]; · iexact Ht
    isplitr; · iapply (records_reached X K c (some (false, h, s))); iexact HR
    isplitl [Ht']; · iexact Ht'
    iapply (records_reached X K (pr (xor h s) c) (some (true, h, s))); iexact HR
  iintro ⟨Hc, HO⟩
  iapply Hk
  isplitl [HO]; · iexists W; iexact HO
  iexact Hc

/-- The wait on either semaphore `k` of a transfer brings its payload, and the semaphore's counter stays at zero. -/
theorem step_wait {α : Type} {Q : α → sProp 𝕄} (j : Bool × Bool × Bool) (sem : DmaSem sig) (hsem : csem (some j) = .dma sem) (n : ℕ) (O : CellTallies nD τ sig Unit)
    (hn : lev (some j) ≤ n) (hO : Above n O) (src dst : Memref sig .tc .vmem S128x256 .bf16) (hN : dst.view.dmaCredit = N)
    {hsrc : src.view.WordExact} {hdst : dst.view.WordExact} {k : PUnit → CoreProg F α} :
    iprop(records X K ∗ levAts L lv ∗ cred (tallyAt (cell c (some j)) () N) ∗ owing c O ∗ atPos ER (cell c (some j)) 0 ∅ 0)
      ⊢ iprop(((owing c O ∗ semVal (cell c (some j)) 0 ∗ pay X c (some j) false) -∗ runs c (k ⟨⟩) Q)
          -∗ runs c (.op (.waitDma2 sem src dst hsrc hdst) k) Q) := by
  unfold owing
  iintro ⟨#HR, #Hlev, Hc, ⟨%W, HO⟩, Hat⟩ Hk
  iapply (Rounds.wp_wait_rest_token 𝒱₀ ER (Rd X) (c : Thread nD τ) none (κ := K (c, some j)) (sm := csem (some j)) (k' := N)
      (fun Kt => by rw [wpE_waitDma2_eq 𝒱₀ (c : Thread nD τ) none Set.univ, hN, hsem]) (Set.mem_univ _) () (O := O) (W := W) (R := 0) (m := 0) (T := ∅)
      ((Nat.zero_add N).trans (expect_dma X c j).symm)) $$ [Hc HO Hat]
  · isplitr; · iapply (records_inv X K c (some j)); iexact HR
    isplitl [Hc]; · iexact Hc
    isplitl [HO]; · iexact HO
    isplitr
    · iapply (mayWait c (csem (some j)) n O (by rw [show lv ((c : Thread nD τ), csem (some j)) () = lev (some j) from lv_cell c (some j)]; exact hn) hO); iexact Hlev
    iexact Hat
  iintro ⟨HO, Hat, -, Hpay⟩
  ihave Hp := (Entails.of_eq (rest_dma X c j)) $$ Hpay
  imod (Rounds.cell_close ER (Rd X) (Set.mem_univ (K (c, some j))) (fun h => h) (R := 0 + 1) (duties_later X (cell c (some j)))) $$ [Hat] with Hz
  · isplitr; · iapply (records_inv X K c (some j)); iexact HR
    iexact Hat
  iapply Hk
  isplitl [HO]; · iexists (insert (csem (some j), ()) W); iexact HO
  isplitl [Hz] <;> iassumption

/-! ## The copies in and out -/

/-- A copy within the device is under way, delivering its destination at the source's reading; -/
theorem step_copy {α : Type} {Q : α → sProp 𝕄} {sp sp' : Space} {s : Shape} {e : EltTy} (src : Memref sig .tc sp s e) (dst : Memref sig .tc sp' s e) (o : Bool) (a : ℕ)
    (ha : dst.view.dmaCredit = a) (ha0 : 0 < a) (v w : s.Idx → Elt F e)
    {hsrc : src.view.WordExact} {hdst : dst.view.WordExact} {hsem : DmaTarget.Typed (nD := nD) (τ := τ) (sig := sig) (p := .tc) sp (.dma (copyS o)) (.here dst)}
    {k : PUnit → CoreProg F α} :
    iprop(owns (c : Thread nD τ) src fullShare v ∗ owns (c : Thread nD τ) dst fullShare w ∗ semVal ((c : Thread nD τ), .dma (copyS o)) 0)
      ⊢ iprop((Transfers.Flight EC (c : Thread nD τ) (.dma (copyS o)) () a
                iprop(owns (c : Thread nD τ) dst fullShare v ∗ owns (c : Thread nD τ) src fullShare v) -∗ runs c (k ⟨⟩) Q)
          -∗ runs c (.op (.enqueueDma src (.here dst) (.dma (copyS o)) hsrc hdst hsem) k) Q) := by
  unfold owns
  iintro ⟨⟨%f, %hf, Hs⟩, ⟨%g, %hg, Hd⟩, Hz⟩ Hk
  iapply (Transfers.wp_dmaLocal EC 𝒱₀ (c : Thread nD τ) none (src := src) (dst := dst) (sm := .dma (copyS o)) (fs := f) (fd := g) (Sd := dst.view.set)
      () a ha ha0 (Finset.Subset.refl _)) $$ [Hs Hd Hz]
  · isplitl [Hs]; · iexact Hs
    isplitl [Hd] <;> iassumption
  iintro H
  iapply Hk
  iapply (Transfers.Flight_mono EC (c : Thread nD τ) (by
    iintro ⟨Hd, Hs⟩
    isplitl [Hd]
    · iexists (dst.view.write (Elt F) g (src.view.read (Elt F) f) Finset.univ)
      isplitr
      · ipureintro; exact (View.read_write_univ _ _).trans hf
      iexact Hd
    · iexists f
      isplitr; · (ipureintro; exact hf)
      iexact Hs)) $$ H

/-- and the wait for it brings both back. -/
theorem step_copied {α : Type} {Q : α → sProp 𝕄} {sp sp' : Space} {s s' : Shape} {e e' : EltTy} (src : Memref sig .tc sp s e) (dst : Memref sig .tc sp' s' e') (o : Bool) (a : ℕ)
    (ha : dst.view.dmaCredit = a) (D : sProp 𝕄) (n : ℕ) (O : CellTallies nD τ sig Unit) (hO : Above n O)
    {hsrc : src.view.WordExact} {hdst : dst.view.WordExact} {k : PUnit → CoreProg F α} :
    iprop(levAts L lv ∗ Transfers.Flight EC (c : Thread nD τ) (.dma (copyS o)) () a D ∗ owing c O)
      ⊢ iprop(((owing c O ∗ semVal ((c : Thread nD τ), .dma (copyS o)) 0 ∗ D) -∗ runs c (k ⟨⟩) Q)
          -∗ runs c (.op (.waitDma2 (copyS o) src dst hsrc hdst) k) Q) := by
  unfold owing
  iintro ⟨#Hlev, Hf, ⟨%W, HO⟩⟩ Hk
  iapply (Transfers.wp_waitLocalO EC 𝒱₀ (c : Thread nD τ) none () ha) $$ [Hf HO]
  · isplitl [Hf]; · iexact Hf
    isplitl [HO]; · iexact HO
    iapply (mayWait c (.dma (copyS o)) n O (by rw [lv_copy]; exact Nat.zero_le n) hO); iexact Hlev
  iintro ⟨HD, Hz, HO⟩
  iapply Hk
  isplitl [HO]; · iexists (insert (SemLoc.dma (copyS o), ()) W); iexact HO
  isplitl [Hz] <;> iassumption

/-! ## The end -/

/-- A program that has returned has reached its postcondition. -/
theorem step_end {α : Type} {Q : α → sProp 𝕄} (a : α) : Q a ⊢ runs (F := F) c (.ret a) Q := by
  unfold runs; rw [wp_ret]
  iintro H
  imodintro
  iexact H

end Rules

end Cert.TreeProof

end
-- ==== Proof.Body.lean ====
/-
The kernel's body, run once on a device whose number is left open: its six parts and its tail, each from what it needs
to what it leaves, over the rules of `Steps`; and their sequence.
-/
module

public import proofs.«01_k».proof.Proof.Steps
public import Idealize.ShloMosaic.Lib.WritesUnit
public import Idealize.ShloMosaic.Lib.ValueIdxCore

@[expose] public section

noncomputable section

namespace Cert.TreeProof

open Cert.KernelIdeal Cert.KernelIdeal.Gen

open Idealize.ShloMosaic
open Idealize.ShloMosaic.TcCoe
open Idealize.ShloMosaic.ValueIdx (ix2)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (X : Dev nD → Vec F S1x256x256 .f32)

/-! ## The result -/

/-- The result: the upper half's sum above the lower half's. -/
def outAt (c : Dev nD) : Vec F S256x256 .bf16 := fun i =>
  if h : (i 0).val < 128 then upper X c (ix2 ⟨(i 0).val, h⟩ ⟨(i 1).val, (i 1).isLt⟩)
  else lower X c (ix2 ⟨(i 0).val - 128, by have : (i 0).val < 256 := (i 0).isLt; omega⟩ ⟨(i 1).val, (i 1).isLt⟩)

/-- The buffer the result is put together in, -/
abbrev resM : Memref sig .tc .vmem S256x256 .bf16 := Memref.whole cc0_scratch1
/-- its upper rows, -/
abbrev topR : Rect S256x256 := Rect.unit (s := S256x256) ![0, 0] S128x256.size inb_S256x256_S128x256_0_0
/-- and its lower ones. -/
abbrev botR : Rect S256x256 := Rect.unit (s := S256x256) ![128, 0] S128x256.size inb_S256x256_S128x256_128_0

/-- The two stores leave the result, whatever was there. -/
theorem res_stored (c : Dev nD) (f : cc0_scratch1.ty.Contents (Elt F)) :
    (resM.access botR).write (Elt F) ((resM.access topR).write (Elt F) f (upper X c) Finset.univ) (lower X c) Finset.univ = outAt X c := by
  refine funext fun (y : S256x256.Idx) => ?_
  show resM.view.read (Elt F) (resM.view.writes (Elt F) f [⟨botR, lower X c⟩, ⟨topR, upper X c⟩]) y = _
  have h0 : (y 0).val < 256 := (y 0).isLt
  unfold outAt
  by_cases h : (y 0).val < 128
  · rw [dif_pos h]
    refine (View.read_writes_cons_rows_of_not_mem resM.view f inb_S256x256_S128x256_128_0 (lower X c) _ y rfl (W := 128) rfl (Or.inl h)).trans ?_
    exact View.read_writes_cons_rows_of_mem resM.view f inb_S256x256_S128x256_0_0 (upper X c) _ y
      (ix2 (n0 := 128) (n1 := 256) ⟨(y 0).val, h⟩ ⟨(y 1).val, (y 1).isLt⟩) rfl (Nat.zero_add _).symm rfl
  · rw [dif_neg h]
    exact View.read_writes_cons_rows_of_mem resM.view f inb_S256x256_S128x256_128_0 (lower X c) _ y
      (ix2 (n0 := 128) (n1 := 256) ⟨(y 0).val - 128, by omega⟩ ⟨(y 1).val, (y 1).isLt⟩) rfl (show (y 0).val = 128 + ((y 0).val - 128) by omega) rfl

/-- The buffer a device's block is copied into. -/
abbrev blkM : Memref sig .tc .vmem S1x256x256 .f32 := Memref.whole cc0_scratch0
/-- All of it, as a load names it. -/
abbrev allR : Rect S1x256x256 := Rect.unit (s := S1x256x256) ![0, 0, 0] S1x256x256.size inb_S1x256x256_S1x256x256_0_0_0

/-- A load of all of it reads its contents. -/
theorem read_all (f : cc0_scratch0.ty.Contents (Elt F)) : (blkM.access allR).read (Elt F) f = f := by
  refine funext fun (x : S1x256x256.Idx) => ?_
  show f (allR.emb x) = f x
  refine congrArg f (funext fun a => Fin.ext ?_)
  fin_cases a <;> exact (Nat.zero_add _).trans (Nat.one_mul _)

/-! ## What a device starts from -/

/-- A statement of each of the nine indices. -/
def onKeys (Φ : Key → sProp 𝕄) : sProp 𝕄 :=
  iprop(Φ none ∗ Φ (some (false, false, false)) ∗ Φ (some (false, true, false)) ∗ Φ (some (false, false, true)) ∗ Φ (some (false, true, true))
    ∗ Φ (some (true, false, false)) ∗ Φ (some (true, true, false)) ∗ Φ (some (true, false, true)) ∗ Φ (some (true, true, true)))

/-- A statement of each of the four transfers. -/
def onMoves (Φ : Bool → Bool → sProp 𝕄) : sProp 𝕄 := iprop(Φ false false ∗ Φ true false ∗ Φ false true ∗ Φ true true)

/-- The tokens of the duties device `c` pays: a unit of each partner's barrier, and of each transfer its sending and
    its arrival at the partner. -/
def payToks (c : Dev nD) : sProp 𝕄 :=
  iprop((dutyTok ER (cell (pr false c) none) 0 false ∗ dutyTok ER (cell (pr true c) none) 0 true)
    ∗ onMoves (F := F) (fun h s => dutyTok ER (cell c (some (false, h, s))) 0 false)
    ∗ onMoves (F := F) fun h s => dutyTok ER (cell (pr (xor h s) c) (some (true, h, s))) 0 false)

/-- Its positions, all at the first round, and those tokens. -/
def linear (c : Dev nD) : sProp 𝕄 := iprop(onKeys (F := F) (fun k => atPos ER (cell c k) 0 ∅ 0) ∗ payToks (F := F) c)

/-- The credit its waits of the barrier and of the arrivals draw on. -/
def creds (c : Dev nD) : sProp 𝕄 :=
  iprop(cred (tallyAt (cell c none) () 2) ∗ onMoves (F := F) fun h s => cred (tallyAt (cell c (some (true, h, s))) () N))

section Parts

variable (K : Dev nD × Key → ℕ) (c : Dev nD)

/-- The first part: the block comes in, the partners are signalled and waited for, and both halves are put in place. -/
theorem part1_runs {Q : (Σ' (d0 : Dev nD) (v3 : BitVec 32), BitVec 32) → sProp 𝕄} (b : cc0_scratch0.ty.Contents (Elt F)) :
    iprop(records X K ∗ levAts L lv ∗ owing c (O₀ c)
        ∗ owns (c : Thread nD τ) (Memref.whole main_arg0) fullShare (X c) ∗ owns (c : Thread nD τ) blkM fullShare b
        ∗ semVal ((c : Thread nD τ), .dma (copyS false)) 0
        ∗ dutyTok ER (cell (pr false c) none) 0 false ∗ dutyTok ER (cell (pr true c) none) 0 true
        ∗ (spare c (inM false) false ∗ spare c (inM false) true) ∗ (spare c (inM true) false ∗ spare c (inM true) true)
        ∗ spare c (outM false) false ∗ spare c (outM true) false
        ∗ cred (tallyAt (cell c none) () 2) ∗ atPos ER (cell c none) 0 ∅ 0)
      ⊢ iprop((∀ v3, ∀ v4, (owing c (O₁ c)
            ∗ owns (c : Thread nD τ) (Memref.whole main_arg0) fullShare (X c) ∗ owns (c : Thread nD τ) blkM fullShare (X c)
            ∗ semVal ((c : Thread nD τ), .dma (copyS false)) 0
            ∗ held c (outM false) false fullShare (val X false false c) ∗ held c (outM true) false fullShare (val X true false c)
            ∗ semVal (cell c none) 0 ∗ barPay c false ∗ barPay c true) -∗ Q ⟨c, v3, v4⟩)
          -∗ runs c (k0_part1 (Memref.whole main_arg0) (Memref.isWhole_whole _) (Memref.whole main_v1) (Memref.isWhole_whole _)
              (Memref.whole cc0_scratch0) (Memref.isWhole_whole _) (Memref.whole cc0_scratch1) (Memref.isWhole_whole _)
              (Memref.whole cc0_scratch2) (Memref.isWhole_whole _) (Memref.whole cc0_scratch3) (Memref.isWhole_whole _)
              (Memref.whole cc0_scratch4) (Memref.isWhole_whole _) (Memref.whole cc0_scratch5) (Memref.isWhole_whole _)
              cc0_scratch6 cc0_scratch7 cc0_scratch8) Q) := by
  rw [k0_part1_eq_skeleton]; unfold k0_part1_skel
  simp only [semSignalWord, semWaitWord, Prog.lift, Prog.bind_op, Prog.bind_ret, Prog.pure_eq_ret, wp_deviceId]
  iintro ⟨#HR, #Hlev, HO, Hx, Hb, Hz, Ht0, Ht1, ⟨Ha0, Ha1⟩, ⟨Hb0, Hb1⟩, Hs0, Hs1, Hc, Hat⟩ Hk
  iapply (step_copy c (Memref.whole main_arg0) blkM false blkM.view.dmaCredit rfl (View.dmaCredit_pos _ (by decide)) (X c) b) $$ [Hx Hb Hz]
  · isplitl [Hx]; · iexact Hx
    isplitl [Hb] <;> iassumption
  iintro Hf
  unfold O₀
  iapply (step_signal X K c false _ (dev1_eq c) (O₁ c + oweB c true)) $$ [HO Ht0 Ha0 Hb1]
  · isplitr; · iexact HR
    isplitl [HO]; · iexact HO
    isplitl [Ht0]; · iexact Ht0
    isplitl [Ha0]; · iexact Ha0
    iexact Hb1
  iintro HO
  iapply (step_signal X K c true _ (dev2_eq c) (O₁ c)) $$ [HO Ht1 Hb0 Ha1]
  · isplitr; · iexact HR
    isplitl [HO]; · iexact HO
    isplitl [Ht1]; · iexact Ht1
    isplitl [Hb0]; · iexact Hb0
    iexact Ha1
  iintro HO
  iapply (step_copied c (Memref.whole main_arg0) blkM false blkM.view.dmaCredit rfl
      iprop(owns (c : Thread nD τ) blkM fullShare (X c) ∗ owns (c : Thread nD τ) (Memref.whole main_arg0) fullShare (X c)) 1 (O₁ c) (above_O₁ c)) $$ [Hf HO]
  · isplitr; · iexact Hlev
    isplitl [Hf] <;> iassumption
  iintro ⟨HO, Hz, Hb, Hx⟩
  ihave Hb := (Entails.of_eq (owns_whole (c : Thread nD τ) cc0_scratch0 fullShare (X c))) $$ Hb
  iapply (wp_load_rect 𝒱₀ (c : Thread nD τ) none Set.univ (m := blkM) (r := allR) (S := Finset.univ) (Finset.subset_univ _)) $$ Hb
  iintro Hb
  rw [read_all]
  iapply (step_load_spare c (outM false) false) $$ Hs0
  iintro %y Hs0
  iapply (step_store c (outM false) false (val X false false c)) $$ Hs0
  iintro Hs0
  iapply (step_load_spare c (outM true) false) $$ Hs1
  iintro %y' Hs1
  iapply (step_store c (outM true) false (val X true false c)) $$ Hs1
  iintro Hs1
  iapply (step_wait_bar X K c (O₁ c) (above_O₁ c)) $$ [Hc HO Hat]
  · isplitr; · iexact HR
    isplitr; · iexact Hlev
    isplitl [Hc]; · iexact Hc
    isplitl [HO] <;> iassumption
  iintro ⟨HO, Hzb, Hp0, Hp1⟩
  iapply (step_end c)
  iapply Hk
  isplitl [HO]; · iexact HO
  isplitl [Hx]; · iexact Hx
  isplitl [Hb]; · (rw [owns_whole]; iexact Hb)
  isplitl [Hz]; · iexact Hz
  isplitl [Hs0]; · iexact Hs0
  isplitl [Hs1]; · iexact Hs1
  isplitl [Hzb]; · iexact Hzb
  isplitl [Hp0] <;> iassumption

/-- The second part: both halves are sent, to one partner each, half of each slot's share kept to load from. -/
theorem part2_runs (v3 v4 : BitVec 32) {Q : PUnit → sProp 𝕄} :
    iprop(records X K ∗ owing c (O₁ c)
        ∗ held c (outM false) false fullShare (val X false false c) ∗ held c (outM true) false fullShare (val X true false c)
        ∗ spare (pr false c) (inM false) false ∗ spare (pr true c) (inM true) false
        ∗ dutyTok ER (cell c (some (false, false, false))) 0 false ∗ dutyTok ER (cell (pr (xor false false) c) (some (true, false, false))) 0 false
        ∗ dutyTok ER (cell c (some (false, true, false))) 0 false ∗ dutyTok ER (cell (pr (xor true false) c) (some (true, true, false))) 0 false)
      ⊢ iprop(((owing c (O₂ c)
            ∗ held c (outM false) false fullShare.right (val X false false c) ∗ held c (outM true) false fullShare.right (val X true false c)
            ∗ cred (tallyAt (cell c (some (false, false, false))) () N) ∗ cred (tallyAt (cell c (some (false, true, false))) () N)) -∗ Q ⟨⟩)
          -∗ runs c (k0_part2 (Memref.whole main_arg0) (Memref.isWhole_whole _) (Memref.whole main_v1) (Memref.isWhole_whole _)
              (Memref.whole cc0_scratch0) (Memref.isWhole_whole _) (Memref.whole cc0_scratch1) (Memref.isWhole_whole _)
              (Memref.whole cc0_scratch2) (Memref.isWhole_whole _) (Memref.whole cc0_scratch3) (Memref.isWhole_whole _)
              (Memref.whole cc0_scratch4) (Memref.isWhole_whole _) (Memref.whole cc0_scratch5) (Memref.isWhole_whole _)
              cc0_scratch6 cc0_scratch7 cc0_scratch8 c v3 v4) Q) := by
  rw [k0_part2_eq_skeleton]; unfold k0_part2_skel
  simp only [Prog.lift, Prog.bind_op, Prog.bind_ret, Prog.pure_eq_ret]
  iintro ⟨#HR, HO, Hs0, Hs1, Hd0, Hd1, Ht0, Ht0', Ht1, Ht1'⟩ Hk
  unfold O₁
  ihave Hs0 := (held_halve c (outM false) false (val X false false c)) $$ Hs0
  icases Hs0 with ⟨Hl0, Hr0⟩
  ihave Hs1 := (held_halve c (outM true) false (val X true false c)) $$ Hs1
  icases Hs1 with ⟨Hl1, Hr1⟩
  iapply (step_send X K c false false _ (dev3_eq c) ((O₂ c) + oweR c true false)) $$ [HO Hl0 Hd0 Ht0 Ht0']
  · isplitr; · iexact HR
    isplitl [HO]; · iexact HO
    isplitl [Hl0]; · iexact Hl0
    isplitl [Hd0]; · iexact Hd0
    isplitl [Ht0] <;> iassumption
  iintro ⟨HO, Hc0⟩
  iapply (step_send X K c true false _ (dev4_eq c) (O₂ c)) $$ [HO Hl1 Hd1 Ht1 Ht1']
  · isplitr; · iexact HR
    isplitl [HO]; · iexact HO
    isplitl [Hl1]; · iexact Hl1
    isplitl [Hd1]; · iexact Hd1
    isplitl [Ht1] <;> iassumption
  iintro ⟨HO, Hc1⟩
  iapply (step_end c)
  iapply Hk
  isplitl [HO]; · iexact HO
  isplitl [Hr0]; · iexact Hr0
  isplitl [Hr1]; · iexact Hr1
  isplitl [Hc0] <;> iassumption

/-- The third part: both halves arrive, and their sums with the device's own are put in place. -/
theorem part3_runs (v4 : BitVec 32) {Q : PUnit → sProp 𝕄} :
    iprop(records X K ∗ levAts L lv ∗ owing c (O₂ c)
        ∗ held c (outM false) false fullShare.right (val X false false c) ∗ held c (outM true) false fullShare.right (val X true false c)
        ∗ spare c (outM false) true ∗ spare c (outM true) true
        ∗ cred (tallyAt (cell c (some (true, false, false))) () N) ∗ cred (tallyAt (cell c (some (true, true, false))) () N)
        ∗ atPos ER (cell c (some (true, false, false))) 0 ∅ 0 ∗ atPos ER (cell c (some (true, true, false))) 0 ∅ 0)
      ⊢ iprop(((owing c (O₂ c)
            ∗ held c (outM false) false fullShare.right (val X false false c) ∗ held c (outM true) false fullShare.right (val X true false c)
            ∗ held c (outM false) true fullShare (val X false true c) ∗ held c (outM true) true fullShare (val X true true c)
            ∗ spare c (inM false) false ∗ spare c (inM true) false
            ∗ semVal (cell c (some (true, false, false))) 0 ∗ semVal (cell c (some (true, true, false))) 0) -∗ Q ⟨⟩)
          -∗ runs c (k0_part3 (Memref.whole main_arg0) (Memref.isWhole_whole _) (Memref.whole main_v1) (Memref.isWhole_whole _)
              (Memref.whole cc0_scratch0) (Memref.isWhole_whole _) (Memref.whole cc0_scratch1) (Memref.isWhole_whole _)
              (Memref.whole cc0_scratch2) (Memref.isWhole_whole _) (Memref.whole cc0_scratch3) (Memref.isWhole_whole _)
              (Memref.whole cc0_scratch4) (Memref.isWhole_whole _) (Memref.whole cc0_scratch5) (Memref.isWhole_whole _)
              cc0_scratch6 cc0_scratch7 cc0_scratch8 v4) Q) := by
  rw [k0_part3_eq_skeleton]; unfold k0_part3_skel
  simp only [Prog.lift, Prog.bind_op, Prog.bind_ret, Prog.pure_eq_ret]
  iintro ⟨#HR, #Hlev, HO, Ho0, Ho1, Hs0, Hs1, Hc0, Hc1, Hat0, Hat1⟩ Hk
  iapply (step_wait X K c (true, false, false) (semAt cc0_scratch8 false false) rfl 2 (O₂ c) (by decide) (above_O₂ c) (slot (outM false) false) (slot (inM false) false) (credit_in false false)) $$ [Hc0 HO Hat0]
  · isplitr; · iexact HR
    isplitr; · iexact Hlev
    isplitl [Hc0]; · iexact Hc0
    isplitl [HO] <;> iassumption
  iintro ⟨HO, Hz0, Hi0⟩
  iapply (step_wait X K c (true, true, false) (semAt cc0_scratch8 true false) rfl 2 (O₂ c) (by decide) (above_O₂ c) (slot (outM true) false) (slot (inM true) false) (credit_in true false)) $$ [Hc1 HO Hat1]
  · isplitr; · iexact HR
    isplitr; · iexact Hlev
    isplitl [Hc1]; · iexact Hc1
    isplitl [HO] <;> iassumption
  iintro ⟨HO, Hz1, Hi1⟩
  ihave Hi0 := (show (pay X c (some (true, false, false)) false : sProp 𝕄) ⊢ held c (inM false) false fullShare (val X false false (pr false c)) from Entails.of_eq rfl) $$ Hi0
  ihave Hi1 := (show (pay X c (some (true, true, false)) false : sProp 𝕄) ⊢ held c (inM true) false fullShare (val X true false (pr true c)) from Entails.of_eq rfl) $$ Hi1
  iapply (step_load c (outM false) false fullShare.right (val X false false c)) $$ Ho0
  iintro Ho0
  iapply (step_load c (inM false) false fullShare (val X false false (pr false c))) $$ Hi0
  iintro Hi0
  iapply (step_load_spare c (outM false) true) $$ Hs0
  iintro %y Hs0
  iapply (step_store c (outM false) true (val X false true c)) $$ Hs0
  iintro Hs0
  iapply (step_load c (outM true) false fullShare.right (val X true false c)) $$ Ho1
  iintro Ho1
  iapply (step_load c (inM true) false fullShare (val X true false (pr true c))) $$ Hi1
  iintro Hi1
  iapply (step_load_spare c (outM true) true) $$ Hs1
  iintro %y' Hs1
  iapply (step_store c (outM true) true (val X true true c)) $$ Hs1
  iintro Hs1
  iapply (step_end c)
  iapply Hk
  isplitl [HO]; · iexact HO
  isplitl [Ho0]; · iexact Ho0
  isplitl [Ho1]; · iexact Ho1
  isplitl [Hs0]; · iexact Hs0
  isplitl [Hs1]; · iexact Hs1
  isplitl [Hi0]; · (iapply (held_spare c (inM false) false (val X false false (pr false c))); iexact Hi0)
  isplitl [Hi1]; · (iapply (held_spare c (inM true) false (val X true false (pr true c))); iexact Hi1)
  isplitl [Hz0] <;> iassumption

/-- The fourth part: both sums are sent, each to the other partner, again half of each slot's share kept. -/
theorem part4_runs (v3 v4 : BitVec 32) {Q : PUnit → sProp 𝕄} :
    iprop(records X K ∗ owing c (O₂ c)
        ∗ held c (outM false) true fullShare (val X false true c) ∗ held c (outM true) true fullShare (val X true true c)
        ∗ spare (pr true c) (inM false) true ∗ spare (pr false c) (inM true) true
        ∗ dutyTok ER (cell c (some (false, false, true))) 0 false ∗ dutyTok ER (cell (pr (xor false true) c) (some (true, false, true))) 0 false
        ∗ dutyTok ER (cell c (some (false, true, true))) 0 false ∗ dutyTok ER (cell (pr (xor true true) c) (some (true, true, true))) 0 false)
      ⊢ iprop(((owing c 0
            ∗ held c (outM false) true fullShare.right (val X false true c) ∗ held c (outM true) true fullShare.right (val X true true c)
            ∗ cred (tallyAt (cell c (some (false, false, true))) () N) ∗ cred (tallyAt (cell c (some (false, true, true))) () N)) -∗ Q ⟨⟩)
          -∗ runs c (k0_part4 (Memref.whole main_arg0) (Memref.isWhole_whole _) (Memref.whole main_v1) (Memref.isWhole_whole _)
              (Memref.whole cc0_scratch0) (Memref.isWhole_whole _) (Memref.whole cc0_scratch1) (Memref.isWhole_whole _)
              (Memref.whole cc0_scratch2) (Memref.isWhole_whole _) (Memref.whole cc0_scratch3) (Memref.isWhole_whole _)
              (Memref.whole cc0_scratch4) (Memref.isWhole_whole _) (Memref.whole cc0_scratch5) (Memref.isWhole_whole _)
              cc0_scratch6 cc0_scratch7 cc0_scratch8 c v3 v4) Q) := by
  rw [k0_part4_eq_skeleton]; unfold k0_part4_skel
  simp only [Prog.lift, Prog.bind_op, Prog.bind_ret, Prog.pure_eq_ret]
  iintro ⟨#HR, HO, Hs0, Hs1, Hd0, Hd1, Ht0, Ht0', Ht1, Ht1'⟩ Hk
  rw [show O₂ c = 0 + oweR c true true + oweR c false true from congrArg (· + oweR c false true) (zero_add _).symm]
  ihave Hs0 := (held_halve c (outM false) true (val X false true c)) $$ Hs0
  icases Hs0 with ⟨Hl0, Hr0⟩
  ihave Hs1 := (held_halve c (outM true) true (val X true true c)) $$ Hs1
  icases Hs1 with ⟨Hl1, Hr1⟩
  iapply (step_send X K c false true _ (dev5_eq c) (0 + oweR c true true)) $$ [HO Hl0 Hd0 Ht0 Ht0']
  · isplitr; · iexact HR
    isplitl [HO]; · iexact HO
    isplitl [Hl0]; · iexact Hl0
    isplitl [Hd0]; · iexact Hd0
    isplitl [Ht0] <;> iassumption
  iintro ⟨HO, Hc0⟩
  iapply (step_send X K c true true _ (dev6_eq c) 0) $$ [HO Hl1 Hd1 Ht1 Ht1']
  · isplitr; · iexact HR
    isplitl [HO]; · iexact HO
    isplitl [Hl1]; · iexact Hl1
    isplitl [Hd1]; · iexact Hd1
    isplitl [Ht1] <;> iassumption
  iintro ⟨HO, Hc1⟩
  iapply (step_end c)
  iapply Hk
  isplitl [HO]; · iexact HO
  isplitl [Hr0]; · iexact Hr0
  isplitl [Hr1]; · iexact Hr1
  isplitl [Hc0] <;> iassumption

/-- Nothing owed is above anything. -/
theorem above_zero (n : ℕ) : Above n (0 : CellTallies nD τ sig Unit) := fun g u h => absurd h (Nat.lt_irrefl 0)

/-- The fifth part: both sums arrive, the upper half of the result is stored and the lower half computed. -/
theorem part5_runs (v3 : BitVec 32) {Q : FVec F S128x256 .bf16 → sProp 𝕄} (f : cc0_scratch1.ty.Contents (Elt F)) :
    iprop(records X K ∗ levAts L lv ∗ owing c 0
        ∗ held c (outM false) true fullShare.right (val X false true c) ∗ held c (outM true) true fullShare.right (val X true true c)
        ∗ owns (c : Thread nD τ) resM fullShare f
        ∗ cred (tallyAt (cell c (some (true, false, true))) () N) ∗ cred (tallyAt (cell c (some (true, true, true))) () N)
        ∗ atPos ER (cell c (some (true, false, true))) 0 ∅ 0 ∗ atPos ER (cell c (some (true, true, true))) 0 ∅ 0)
      ⊢ iprop(((owing c 0
            ∗ held c (outM false) true fullShare.right (val X false true c) ∗ held c (outM true) true fullShare.right (val X true true c)
            ∗ owns (c : Thread nD τ) resM fullShare ((resM.access topR).write (Elt F) f (upper X c) Finset.univ)
            ∗ spare c (inM false) true ∗ spare c (inM true) true
            ∗ semVal (cell c (some (true, false, true))) 0 ∗ semVal (cell c (some (true, true, true))) 0)
              -∗ Q (k0_pay7 (val X true true c) (val X true true (pr false c))))
          -∗ runs c (k0_part5 (Memref.whole main_arg0) (Memref.isWhole_whole _) (Memref.whole main_v1) (Memref.isWhole_whole _)
              (Memref.whole cc0_scratch0) (Memref.isWhole_whole _) (Memref.whole cc0_scratch1) (Memref.isWhole_whole _)
              (Memref.whole cc0_scratch2) (Memref.isWhole_whole _) (Memref.whole cc0_scratch3) (Memref.isWhole_whole _)
              (Memref.whole cc0_scratch4) (Memref.isWhole_whole _) (Memref.whole cc0_scratch5) (Memref.isWhole_whole _)
              cc0_scratch6 cc0_scratch7 cc0_scratch8 v3) Q) := by
  rw [k0_part5_eq_skeleton]; unfold k0_part5_skel
  simp only [Prog.lift, Prog.bind_op, Prog.bind_ret, Prog.pure_eq_ret]
  rw [owns_whole, owns_whole]
  iintro ⟨#HR, #Hlev, HO, Ho0, Ho1, Hf, Hc0, Hc1, Hat0, Hat1⟩ Hk
  iapply (step_wait X K c (true, false, true) (semAt cc0_scratch8 false true) rfl 3 0 (by decide) (above_zero 3) (slot (outM false) true) (slot (inM false) true) (credit_in false true)) $$ [Hc0 HO Hat0]
  · isplitr; · iexact HR
    isplitr; · iexact Hlev
    isplitl [Hc0]; · iexact Hc0
    isplitl [HO] <;> iassumption
  iintro ⟨HO, Hz0, Hi0⟩
  iapply (step_wait X K c (true, true, true) (semAt cc0_scratch8 true true) rfl 3 0 (by decide) (above_zero 3) (slot (outM true) true) (slot (inM true) true) (credit_in true true)) $$ [Hc1 HO Hat1]
  · isplitr; · iexact HR
    isplitr; · iexact Hlev
    isplitl [Hc1]; · iexact Hc1
    isplitl [HO] <;> iassumption
  iintro ⟨HO, Hz1, Hi1⟩
  ihave Hi0 := (show (pay X c (some (true, false, true)) false : sProp 𝕄) ⊢ held c (inM false) true fullShare (val X false true (pr true c)) from Entails.of_eq rfl) $$ Hi0
  ihave Hi1 := (show (pay X c (some (true, true, true)) false : sProp 𝕄) ⊢ held c (inM true) true fullShare (val X true true (pr false c)) from Entails.of_eq rfl) $$ Hi1
  iapply (step_load c (outM false) true fullShare.right (val X false true c)) $$ Ho0
  iintro Ho0
  iapply (step_load c (inM false) true fullShare (val X false true (pr true c))) $$ Hi0
  iintro Hi0
  iapply (wp_load_rect 𝒱₀ (c : Thread nD τ) none Set.univ (m := resM) (r := topR) (S := Finset.univ) (Finset.subset_univ _)) $$ Hf
  iintro Hf
  iapply (wp_store 𝒱₀ (c : Thread nD τ) none Set.univ (m := resM) (r := topR) (S := Finset.univ) (Mk := Finset.univ) (Finset.subset_univ _)) $$ Hf
  iintro Hf
  iapply (step_load c (outM true) true fullShare.right (val X true true c)) $$ Ho1
  iintro Ho1
  iapply (step_load c (inM true) true fullShare (val X true true (pr false c))) $$ Hi1
  iintro Hi1
  iapply (wp_load_rect 𝒱₀ (c : Thread nD τ) none Set.univ (m := resM) (r := botR) (S := Finset.univ) (Finset.subset_univ _)) $$ Hf
  iintro Hf
  iapply (step_end c)
  iapply Hk
  isplitl [HO]; · iexact HO
  isplitl [Ho0]; · iexact Ho0
  isplitl [Ho1]; · iexact Ho1
  isplitl [Hf]; · iexact Hf
  isplitl [Hi0]; · (iapply (held_spare c (inM false) true (val X false true (pr true c))); iexact Hi0)
  isplitl [Hi1]; · (iapply (held_spare c (inM true) true (val X true true (pr false c))); iexact Hi1)
  isplitl [Hz0] <;> iassumption

/-- The sixth part: the lower half is stored, the result copied out, and the first step's sendings are over. -/
theorem part6_runs {Q : PUnit → sProp 𝕄} (f : cc0_scratch1.ty.Contents (Elt F)) (g : main_v1.ty.Contents (Elt F)) :
    iprop(records X K ∗ levAts L lv ∗ owing c 0
        ∗ owns (c : Thread nD τ) resM fullShare ((resM.access topR).write (Elt F) f (upper X c) Finset.univ)
        ∗ owns (c : Thread nD τ) (Memref.whole main_v1) fullShare g ∗ semVal ((c : Thread nD τ), .dma (copyS true)) 0
        ∗ held c (outM false) false fullShare.right (val X false false c) ∗ held c (outM true) false fullShare.right (val X true false c)
        ∗ cred (tallyAt (cell c (some (false, false, false))) () N) ∗ cred (tallyAt (cell c (some (false, true, false))) () N)
        ∗ atPos ER (cell c (some (false, false, false))) 0 ∅ 0 ∗ atPos ER (cell c (some (false, true, false))) 0 ∅ 0)
      ⊢ iprop(((owing c 0
            ∗ owns (c : Thread nD τ) resM fullShare (outAt X c)
            ∗ owns (c : Thread nD τ) (Memref.whole main_v1) fullShare (outAt X c) ∗ semVal ((c : Thread nD τ), .dma (copyS true)) 0
            ∗ spare c (outM false) false ∗ spare c (outM true) false
            ∗ semVal (cell c (some (false, false, false))) 0 ∗ semVal (cell c (some (false, true, false))) 0) -∗ Q ⟨⟩)
          -∗ runs c (k0_part6 (Memref.whole main_arg0) (Memref.isWhole_whole _) (Memref.whole main_v1) (Memref.isWhole_whole _)
              (Memref.whole cc0_scratch0) (Memref.isWhole_whole _) (Memref.whole cc0_scratch1) (Memref.isWhole_whole _)
              (Memref.whole cc0_scratch2) (Memref.isWhole_whole _) (Memref.whole cc0_scratch3) (Memref.isWhole_whole _)
              (Memref.whole cc0_scratch4) (Memref.isWhole_whole _) (Memref.whole cc0_scratch5) (Memref.isWhole_whole _)
              cc0_scratch6 cc0_scratch7 cc0_scratch8 (k0_pay7 (val X true true c) (val X true true (pr false c)))) Q) := by
  rw [k0_part6_eq_skeleton]; unfold k0_part6_skel
  simp only [Prog.lift, Prog.bind_op, Prog.bind_ret, Prog.pure_eq_ret]
  rw [owns_whole]
  iintro ⟨#HR, #Hlev, HO, Hf, Hg, Hz, Ho0, Ho1, Hc0, Hc1, Hat0, Hat1⟩ Hk
  iapply (wp_store 𝒱₀ (c : Thread nD τ) none Set.univ (m := resM) (r := botR) (S := Finset.univ) (Mk := Finset.univ) (Finset.subset_univ _)) $$ Hf
  iintro Hf
  ihave Hf := (show (((resM.access botR).loc (c : Thread nD τ)) ↦{fullShare}
      ((resM.access botR).write (Elt F) ((resM.access topR).write (Elt F) f (upper X c) Finset.univ)
        (k0_pay8 (k0_pay7 (val X true true c) (val X true true (pr false c)))) Finset.univ) : sProp 𝕄)
      ⊢ owns (c : Thread nD τ) resM fullShare (outAt X c) from by
        rw [show k0_pay8 (k0_pay7 (val X true true c) (val X true true (pr false c))) = lower X c from rfl, res_stored, owns_whole]) $$ Hf
  iapply (step_copy c resM (Memref.whole main_v1) true (Memref.whole main_v1).view.dmaCredit rfl (View.dmaCredit_pos _ (by decide)) (outAt X c) g) $$ [Hf Hg Hz]
  · isplitl [Hf]; · iexact Hf
    isplitl [Hg] <;> iassumption
  iintro Hfl
  iapply (step_copied c resM (Memref.whole main_v1) true (Memref.whole main_v1).view.dmaCredit rfl
      iprop(owns (c : Thread nD τ) (Memref.whole main_v1) fullShare (outAt X c) ∗ owns (c : Thread nD τ) resM fullShare (outAt X c)) 0 0 (above_zero 0)) $$ [Hfl HO]
  · isplitr; · iexact Hlev
    isplitl [Hfl] <;> iassumption
  iintro ⟨HO, Hz, Hg, Hf⟩
  iapply (step_wait X K c (false, false, false) (semAt cc0_scratch7 false false) rfl 0 0 (by decide) (above_zero 0) (slot (inM false) false) (slot (outM false) false) (credit_out false false)) $$ [Hc0 HO Hat0]
  · isplitr; · iexact HR
    isplitr; · iexact Hlev
    isplitl [Hc0]; · iexact Hc0
    isplitl [HO] <;> iassumption
  iintro ⟨HO, Hz0, Hi0⟩
  iapply (step_wait X K c (false, true, false) (semAt cc0_scratch7 true false) rfl 0 0 (by decide) (above_zero 0) (slot (inM true) false) (slot (outM true) false) (credit_out true false)) $$ [Hc1 HO Hat1]
  · isplitr; · iexact HR
    isplitr; · iexact Hlev
    isplitl [Hc1]; · iexact Hc1
    isplitl [HO] <;> iassumption
  iintro ⟨HO, Hz1, Hi1⟩
  ihave Hi0 := (show (pay X c (some (false, false, false)) false : sProp 𝕄) ⊢ held c (outM false) false fullShare.left (val X false false c) from Entails.of_eq rfl) $$ Hi0
  ihave Hi1 := (show (pay X c (some (false, true, false)) false : sProp 𝕄) ⊢ held c (outM true) false fullShare.left (val X true false c) from Entails.of_eq rfl) $$ Hi1
  iapply (step_end c)
  iapply Hk
  isplitl [HO]; · iexact HO
  isplitl [Hf]; · iexact Hf
  isplitl [Hg]; · iexact Hg
  isplitl [Hz]; · iexact Hz
  isplitl [Hi0 Ho0]
  · iapply (held_rejoin c (outM false) false (val X false false c) (val X false false c))
    isplitl [Hi0] <;> iassumption
  isplitl [Hi1 Ho1]
  · iapply (held_rejoin c (outM true) false (val X true false c) (val X true false c))
    isplitl [Hi1] <;> iassumption
  isplitl [Hz0] <;> iassumption

/-- The six scratch buffers, each at some contents. -/
def scratch : sProp 𝕄 :=
  iprop((∃ f : Buf (Elt F) ((c : Thread nD τ).loc cc0_scratch0), ((c : Thread nD τ).loc cc0_scratch0) ↦{fullShare} f)
    ∗ (∃ f : Buf (Elt F) ((c : Thread nD τ).loc cc0_scratch1), ((c : Thread nD τ).loc cc0_scratch1) ↦{fullShare} f)
    ∗ (∃ f : Buf (Elt F) ((c : Thread nD τ).loc cc0_scratch2), ((c : Thread nD τ).loc cc0_scratch2) ↦{fullShare} f)
    ∗ (∃ f : Buf (Elt F) ((c : Thread nD τ).loc cc0_scratch3), ((c : Thread nD τ).loc cc0_scratch3) ↦{fullShare} f)
    ∗ (∃ f : Buf (Elt F) ((c : Thread nD τ).loc cc0_scratch4), ((c : Thread nD τ).loc cc0_scratch4) ↦{fullShare} f)
    ∗ (∃ f : Buf (Elt F) ((c : Thread nD τ).loc cc0_scratch5), ((c : Thread nD τ).loc cc0_scratch5) ↦{fullShare} f))

/-- What the body needs: the protocol's records and the device's own part of it, its block, the array the result goes
    to, its scratch buffers and the two copies' semaphores at zero. -/
def bodyPre : sProp 𝕄 :=
  iprop((records X K ∗ linear (F := F) c) ∗ creds (F := F) c ∗ levAts L lv
    ∗ owns (c : Thread nD τ) (Memref.whole main_arg0) fullShare (X c)
    ∗ (∃ g : main_v1.ty.Contents (Elt F), owns (c : Thread nD τ) (Memref.whole main_v1) fullShare g)
    ∗ (semVal ((c : Thread nD τ), .dma (copyS false)) 0 ∗ semVal ((c : Thread nD τ), .dma (copyS true)) 0)
    ∗ scratch (F := F) c ∗ owing (F := F) c (O₀ c))

/-- What the body leaves: the block as it was, the result in its array, the scratch buffers, and all semaphores at zero. -/
def bodyPost : sProp 𝕄 :=
  iprop(owns (c : Thread nD τ) (Memref.whole main_arg0) fullShare (X c)
    ∗ owns (c : Thread nD τ) (Memref.whole main_v1) fullShare (outAt X c)
    ∗ (semVal ((c : Thread nD τ), .dma (copyS false)) 0 ∗ semVal ((c : Thread nD τ), .dma (copyS true)) 0)
    ∗ onKeys (F := F) (fun k => semVal (cell c k) 0)
    ∗ scratch (F := F) c ∗ owing (F := F) c 0)

/-- The whole body, its parts one after the other, and the second step's sendings over at the end. -/
theorem body_runs {Q : PUnit → sProp 𝕄} :
    bodyPre X K c ⊢ iprop((bodyPost X c -∗ Q ⟨⟩)
      -∗ runs c (cc0_body (Memref.whole main_arg0) (Memref.isWhole_whole _) (Memref.whole main_v1) (Memref.isWhole_whole _)
        (Memref.whole cc0_scratch0) (Memref.isWhole_whole _) (Memref.whole cc0_scratch1) (Memref.isWhole_whole _)
        (Memref.whole cc0_scratch2) (Memref.isWhole_whole _) (Memref.whole cc0_scratch3) (Memref.isWhole_whole _)
        (Memref.whole cc0_scratch4) (Memref.isWhole_whole _) (Memref.whole cc0_scratch5) (Memref.isWhole_whole _)
        cc0_scratch6 cc0_scratch7 cc0_scratch8) Q) := by
  rw [cc0_body_eq_skeleton]; unfold cc0_body_skel
  simp only [Prog.lift, Prog.bind_op, Prog.bind_ret, Prog.pure_eq_ret]
  unfold bodyPre linear creds payToks scratch onKeys onMoves
  iintro ⟨⟨#HR, ⟨HatB, HatO00, HatO10, HatO01, HatO11, HatI00, HatI10, HatI01, HatI11⟩, ⟨Htb0, Htb1⟩, ⟨Hto00, Hto10, Hto01, Hto11⟩,
      ⟨Hti00, Hti10, Hti01, Hti11⟩⟩, ⟨Hcb, HcI00, HcI10, HcI01, HcI11⟩, #Hlev, Hx, ⟨%g, Hg⟩, ⟨Hz0, Hz1⟩,
      ⟨⟨%b, Hb⟩, ⟨%f, Hf⟩, Ho0, Hi0, Ho1, Hi1⟩, HO⟩ Hk
  ihave Ho0 := (pair_split (F := F) c (outM false) (View.set_whole _)) $$ Ho0
  icases Ho0 with ⟨Ho00, Ho01⟩
  ihave Ho1 := (pair_split (F := F) c (outM true) (View.set_whole _)) $$ Ho1
  icases Ho1 with ⟨Ho10, Ho11⟩
  ihave Hi0 := (pair_split (F := F) c (inM false) (View.set_whole _)) $$ Hi0
  ihave Hi1 := (pair_split (F := F) c (inM true) (View.set_whole _)) $$ Hi1
  ihave Hb := (Entails.of_eq (owns_whole (c : Thread nD τ) cc0_scratch0 fullShare b).symm) $$ Hb
  ihave Hf := (Entails.of_eq (owns_whole (c : Thread nD τ) cc0_scratch1 fullShare f).symm) $$ Hf
  unfold runs
  rw [wp_bind]
  iapply (part1_runs X K c b) $$ [HO Hx Hb Hz0 Htb0 Htb1 Hi0 Hi1 Ho00 Ho10 Hcb HatB]
  · isplitr; · iexact HR
    isplitr; · iexact Hlev
    isplitl [HO]; · iexact HO
    isplitl [Hx]; · iexact Hx
    isplitl [Hb]; · iexact Hb
    isplitl [Hz0]; · iexact Hz0
    isplitl [Htb0]; · iexact Htb0
    isplitl [Htb1]; · iexact Htb1
    isplitl [Hi0]; · iexact Hi0
    isplitl [Hi1]; · iexact Hi1
    isplitl [Ho00]; · iexact Ho00
    isplitl [Ho10]; · iexact Ho10
    isplitl [Hcb] <;> iassumption
  iintro %v3 %v4 ⟨HO, Hx, Hb, Hz0, Ho00, Ho10, HzB, Hp0, Hp1⟩
  unfold barPay
  icases Hp0 with ⟨Hd00, Hd11⟩
  icases Hp1 with ⟨Hd10, Hd01⟩
  rw [wp_bind]
  iapply (part2_runs X K c v3 v4) $$ [HO Ho00 Ho10 Hd00 Hd10 Hto00 Hti00 Hto10 Hti10]
  · isplitr; · iexact HR
    isplitl [HO]; · iexact HO
    isplitl [Ho00]; · iexact Ho00
    isplitl [Ho10]; · iexact Ho10
    isplitl [Hd00]; · iexact Hd00
    isplitl [Hd10]; · iexact Hd10
    isplitl [Hto00]; · iexact Hto00
    isplitl [Hti00]; · iexact Hti00
    isplitl [Hto10] <;> iassumption
  iintro ⟨HO, Ho00, Ho10, HcO00, HcO10⟩
  rw [wp_bind]
  iapply (part3_runs X K c v4) $$ [HO Ho00 Ho10 Ho01 Ho11 HcI00 HcI10 HatI00 HatI10]
  · isplitr; · iexact HR
    isplitr; · iexact Hlev
    isplitl [HO]; · iexact HO
    isplitl [Ho00]; · iexact Ho00
    isplitl [Ho10]; · iexact Ho10
    isplitl [Ho01]; · iexact Ho01
    isplitl [Ho11]; · iexact Ho11
    isplitl [HcI00]; · iexact HcI00
    isplitl [HcI10]; · iexact HcI10
    isplitl [HatI00] <;> iassumption
  iintro ⟨HO, Ho00, Ho10, Ho01, Ho11, Hi00, Hi10, HzI00, HzI10⟩
  rw [wp_bind]
  iapply (part4_runs X K c v3 v4) $$ [HO Ho01 Ho11 Hd01 Hd11 Hto01 Hti01 Hto11 Hti11]
  · isplitr; · iexact HR
    isplitl [HO]; · iexact HO
    isplitl [Ho01]; · iexact Ho01
    isplitl [Ho11]; · iexact Ho11
    isplitl [Hd01]; · iexact Hd01
    isplitl [Hd11]; · iexact Hd11
    isplitl [Hto01]; · iexact Hto01
    isplitl [Hti01]; · iexact Hti01
    isplitl [Hto11] <;> iassumption
  iintro ⟨HO, Ho01, Ho11, HcO01, HcO11⟩
  rw [wp_bind]
  iapply (part5_runs X K c v3 f) $$ [HO Ho01 Ho11 Hf HcI01 HcI11 HatI01 HatI11]
  · isplitr; · iexact HR
    isplitr; · iexact Hlev
    isplitl [HO]; · iexact HO
    isplitl [Ho01]; · iexact Ho01
    isplitl [Ho11]; · iexact Ho11
    isplitl [Hf]; · iexact Hf
    isplitl [HcI01]; · iexact HcI01
    isplitl [HcI11]; · iexact HcI11
    isplitl [HatI01] <;> iassumption
  iintro ⟨HO, Ho01, Ho11, Hf, Hi01, Hi11, HzI01, HzI11⟩
  rw [wp_bind]
  iapply (part6_runs X K c f g) $$ [HO Hf Hg Hz1 Ho00 Ho10 HcO00 HcO10 HatO00 HatO10]
  · isplitr; · iexact HR
    isplitr; · iexact Hlev
    isplitl [HO]; · iexact HO
    isplitl [Hf]; · iexact Hf
    isplitl [Hg]; · iexact Hg
    isplitl [Hz1]; · iexact Hz1
    isplitl [Ho00]; · iexact Ho00
    isplitl [Ho10]; · iexact Ho10
    isplitl [HcO00]; · iexact HcO00
    isplitl [HcO10]; · iexact HcO10
    isplitl [HatO00] <;> iassumption
  iintro ⟨HO, Hf, Hg, Hz1, Ho00, Ho10, HzO00, HzO10⟩
  iapply (step_wait X K c (false, false, true) (semAt cc0_scratch7 false true) rfl 0 0 (by decide) (above_zero 0) (slot (inM false) true) (slot (outM false) true) (credit_out false true)) $$ [HcO01 HO HatO01]
  · isplitr; · iexact HR
    isplitr; · iexact Hlev
    isplitl [HcO01]; · iexact HcO01
    isplitl [HO] <;> iassumption
  iintro ⟨HO, HzO01, Hl01⟩
  iapply (step_wait X K c (false, true, true) (semAt cc0_scratch7 true true) rfl 0 0 (by decide) (above_zero 0) (slot (inM true) true) (slot (outM true) true) (credit_out true true)) $$ [HcO11 HO HatO11]
  · isplitr; · iexact HR
    isplitr; · iexact Hlev
    isplitl [HcO11]; · iexact HcO11
    isplitl [HO] <;> iassumption
  iintro ⟨HO, HzO11, Hl11⟩
  ihave Hl01 := (show (pay X c (some (false, false, true)) false : sProp 𝕄) ⊢ held c (outM false) true fullShare.left (val X false true c) from Entails.of_eq rfl) $$ Hl01
  ihave Hl11 := (show (pay X c (some (false, true, true)) false : sProp 𝕄) ⊢ held c (outM true) true fullShare.left (val X true true c) from Entails.of_eq rfl) $$ Hl11
  ihave Ho01 := (held_rejoin c (outM false) true (val X false true c) (val X false true c)) $$ [Hl01 Ho01]
  · isplitl [Hl01] <;> iassumption
  ihave Ho11 := (held_rejoin c (outM true) true (val X true true c) (val X true true c)) $$ [Hl11 Ho11]
  · isplitl [Hl11] <;> iassumption
  iapply (step_end c)
  iapply Hk
  unfold bodyPost scratch onKeys
  isplitl [Hx]; · iexact Hx
  isplitl [Hg]; · iexact Hg
  isplitl [Hz0 Hz1]
  · isplitl [Hz0] <;> iassumption
  isplitl [HzB HzO00 HzO10 HzO01 HzO11 HzI00 HzI10 HzI01 HzI11]
  · isplitl [HzB]; · iexact HzB
    isplitl [HzO00]; · iexact HzO00
    isplitl [HzO10]; · iexact HzO10
    isplitl [HzO01]; · iexact HzO01
    isplitl [HzO11]; · iexact HzO11
    isplitl [HzI00]; · iexact HzI00
    isplitl [HzI10]; · iexact HzI10
    isplitl [HzI01] <;> iassumption
  isplitr [HO]
  · isplitl [Hb]; · (iexists (X c); iapply (Entails.of_eq (owns_whole (c : Thread nD τ) cc0_scratch0 fullShare (X c))); iexact Hb)
    isplitl [Hf]; · (iexists (outAt X c); iapply (Entails.of_eq (owns_whole (c : Thread nD τ) cc0_scratch1 fullShare (outAt X c))); iexact Hf)
    isplitl [Ho00 Ho01]
    · iapply (pair_join (F := F) c (outM false) (View.set_whole _))
      isplitl [Ho00] <;> iassumption
    isplitl [Hi00 Hi01]
    · iapply (pair_join (F := F) c (inM false) (View.set_whole _))
      isplitl [Hi00] <;> iassumption
    isplitl [Ho10 Ho11]
    · iapply (pair_join (F := F) c (outM true) (View.set_whole _))
      isplitl [Ho10] <;> iassumption
    · iapply (pair_join (F := F) c (inM true) (View.set_whole _))
      isplitl [Hi10] <;> iassumption
  iexact HO

end Parts

end Cert.TreeProof

end
-- ==== Proof.Run.lean ====
/-
The launch: what each device starts from, dealt out of the machine's initial state, and the run of the program from any
memory over any floats. What a device starts from is stated per index of `Key`, so that dealing it is one statement for
all nine semaphores.
-/
module

public import proofs.«01_k».proof.Proof.Body
public import proofs.«01_k».proof.Proof.Gen.KernelIdeal.Launch
public import proofs.«01_k».proof.Proof.Gen.KernelIdeal.Points
public import Idealize.ShloMosaic.Lib.Pipeline.CollectiveSegs

@[expose] public section

noncomputable section

namespace Cert.TreeProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-- The blocks the devices hold at the start. -/
abbrev blk (c : Dev nD) : Vec F S1x256x256 .f32 := m ((c : Thread nD τ).loc main_arg0)

/-- The machine's initial state. -/
abbrev s₀ : MemSt nD τ sig (Elt F) := ⟨m, fun _ => 0, ρ⟩

/-! ## Sums over the indices -/

omit [FloatOps F] in
/-- A sum over all indices, written out. -/
theorem keys_eq (Φ : Key → sProp 𝕄) : bigSep Finset.univ Φ = onKeys Φ :=
  bigSep_univ_eq_bigSepL [none, some (false, false, false), some (false, true, false), some (false, false, true), some (false, true, true),
    some (true, false, false), some (true, true, false), some (true, false, true), some (true, true, true)] (by decide) (by decide) Φ

omit [FloatOps F] in
/-- The same, the barrier's index apart. -/
theorem keys_some (Φ : Key → sProp 𝕄) : onKeys Φ = iprop(Φ none ∗ bigSep Finset.univ fun j : Bool × Bool × Bool => Φ (some j)) := by
  rw [bigSep_univ_eq_bigSepL [(false, false, false), (false, true, false), (false, false, true), (false, true, true),
    (true, false, false), (true, true, false), (true, false, true), (true, true, true)] (by decide) (by decide) (fun j => Φ (some j))]
  rfl

omit [FloatOps F] in
/-- A sum over the devices may be taken at their partners. -/
theorem around (d : Bool) (Φ : Dev nD → sProp 𝕄) : bigSep Finset.univ Φ ⊢ bigSep Finset.univ fun c => Φ (pr d c) :=
  Entails.of_eq (bigSep_univ_equiv (prE d) Φ)

/-! ## The semaphores at zero -/

/-- The kernel's own semaphores: the two copies', and those of the sendings and arrivals. -/
def osem : Bool ⊕ (Bool × Bool × Bool) → SemLoc sig
  | .inl o => .dma (copyS o)
  | .inr j => csem (some j)

theorem ownSemFacts : Pipeline.OwnSemFacts cfg0.spec osem := by decide +kernel

/-- The copies' semaphores at zero. -/
def copyZero (c : Dev nD) : sProp 𝕄 := iprop(semVal ((c : Thread nD τ), .dma (copyS false)) 0 ∗ semVal ((c : Thread nD τ), .dma (copyS true)) 0)

omit [FloatOps F] in
/-- The kernel's own at zero are the copies' at zero and those of the sendings and arrivals, -/
theorem ownSems0_eq (c : Dev nD) : (Pipeline.ownSems0 (Ix := Unit) (Name := ℕ) (U := UU) (Lvl := ℕ) (Val := Elt F) (τ := τ) osem c : sProp 𝕄)
    = iprop(copyZero c ∗ bigSep Finset.univ fun j : Bool × Bool × Bool => semVal (cell c (some j)) 0) := by
  unfold Pipeline.ownSems0
  rw [BI.bigSep_univ_sum, bigSep_univ_eq_bigSepL [false, true] (by decide) (by decide)]
  rfl

omit [FloatOps F] in
/-- and the one that outlives the kernel is the barrier's. -/
theorem unscopedSems0_eq (c : Dev nD) : (unscopedSems0 c : sProp 𝕄) = semVal (cell c none) 0 := by
  unfold unscopedSems0; rw [bigSep_eq_bigSepL_of_eq [SemLoc.reg barS] (by decide) (by decide)]; rfl

omit [FloatOps F] in
/-- So all of them at zero are the copies' and the protocol's nine. -/
theorem sems_eq (c : Dev nD) : (iprop(Pipeline.ownSems0 (Ix := Unit) (Name := ℕ) (U := UU) (Lvl := ℕ) (Val := Elt F) (τ := τ) osem c ∗ unscopedSems0 c) : sProp 𝕄)
    ⊢ iprop(copyZero c ∗ onKeys fun k => semVal (cell c k) 0) := by
  rw [ownSems0_eq, unscopedSems0_eq, keys_some]
  iintro ⟨⟨Hc, Hj⟩, Hb⟩
  isplitl [Hc]; · iexact Hc
  isplitl [Hb] <;> iassumption

/-! ## The protocol's state, minted and dealt -/

/-- The protocol's cells, -/
def cellSet : Finset (GSem nD τ sig) := Finset.univ.map ⟨fun ck : Dev nD × Key => cell ck.1 ck.2, cell_injective⟩

/-- and a token for either duty of each. -/
def tokOf (x : Dev nD × (Key × Bool)) : GSem nD τ sig × ℕ × Bool := (cell x.1 x.2.1, 0, x.2.2)

theorem tokOf_injective : Function.Injective tokOf := by
  rintro ⟨c, k, d⟩ ⟨c', k', d'⟩ h
  have h1 : (c, k) = (c', k') := cell_injective (congrArg Prod.fst h)
  have h2 : d = d' := congrArg (fun x : GSem nD τ sig × ℕ × Bool => x.2.2) h
  cases h1
  cases h2
  rfl

def tokSet : Finset (GSem nD τ sig × ℕ × Bool) := Finset.univ.map ⟨tokOf, tokOf_injective⟩

/-- The initial state of the two protocols, the library's and this one. -/
def u₀ : UU := (initOf (Pipeline.cells cfgs cellOf_inj) (Pipeline.launchToks cfgs cellOf_inj), (initOf cellSet tokSet, 1))

/-- A device's share of this one's: its cells' states, its positions and marks there, and its cells' tokens. -/
def G (X : Dev nD → Vec F S1x256x256 .f32) (c : Dev nD) : sProp 𝕄 :=
  iprop((bigSep Finset.univ fun k : Key => roundState ER (Rd X) (cell c k) 0)
    ∗ (bigSep Finset.univ fun k : Key => atPos ER (cell c k) 0 ∅ 0)
    ∗ (bigSep Finset.univ fun k : Key => reached ER (cell c k) 0)
    ∗ bigSep Finset.univ fun kd : Key × Bool => dutyTok ER (cell c kd.1) 0 kd.2)

omit [FloatOps F] in
/-- A sum over the cells is one over the devices of sums over the indices. -/
theorem cellSet_sum (Φ : GSem nD τ sig → sProp 𝕄) :
    bigSep cellSet Φ = bigSep Finset.univ fun c : Dev nD => bigSep Finset.univ fun k : Key => Φ (cell c k) := by
  unfold cellSet; rw [bigSep_map, bigSep_univ_prod]; rfl

/-- The initial state, in the devices' shares. -/
theorem minted (X : Dev nD → Vec F S1x256x256 .f32) : BI.own (ER (initOf cellSet tokSet)) ⊢ (|==> bigSep Finset.univ (G X) : sProp 𝕄) := by
  iintro H
  imod (Rounds.fund ER (Rd X) cellSet tokSet) $$ H with ⟨Hs, Hr, Ha, Ht⟩
  imodintro
  ihave Hs := (Entails.of_eq (cellSet_sum fun g => roundState ER (Rd X) g 0)) $$ Hs
  ihave Hr := (Entails.of_eq (cellSet_sum fun g => reached ER g 0)) $$ Hr
  ihave Ha := (Entails.of_eq (cellSet_sum fun g => atPos ER g 0 ∅ 0)) $$ Ha
  ihave Ht := (show bigSep tokSet (fun x => (dutyTok ER x.1 x.2.1 x.2.2 : sProp 𝕄))
      ⊢ bigSep Finset.univ fun c : Dev nD => bigSep Finset.univ fun kd : Key × Bool => dutyTok ER (cell c kd.1) 0 kd.2 from
    Entails.of_eq (by unfold tokSet; rw [bigSep_map, bigSep_univ_prod]; rfl)) $$ Ht
  unfold G
  simp only [bigSep_sep']
  isplitl [Hs]; · iexact Hs
  isplitl [Ha]; · iexact Ha
  isplitl [Hr] <;> iassumption

omit [FloatOps F] in
/-- The tokens of the devices' own cells are among them those of the duties the devices pay. -/
theorem toks_dealt : (bigSep Finset.univ fun c : Dev nD => bigSep Finset.univ fun kd : Key × Bool => (dutyTok ER (cell c kd.1) 0 kd.2 : sProp 𝕄))
    ⊢ bigSep Finset.univ fun c : Dev nD => payToks (F := F) c := by
  have one (c : Dev nD) : (bigSep Finset.univ fun kd : Key × Bool => (dutyTok ER (cell c kd.1) 0 kd.2 : sProp 𝕄))
      ⊢ iprop(dutyTok ER (cell c none) 0 true ∗ onKeys fun k => dutyTok ER (cell c k) 0 false) := by
    rw [bigSep_univ_prod, keys_eq]
    have two (k : Key) : (bigSep Finset.univ fun d : Bool => (dutyTok ER (cell c k) 0 d : sProp 𝕄))
        = iprop(dutyTok ER (cell c k) 0 false ∗ dutyTok ER (cell c k) 0 true) := bigSep_univ_eq_bigSepL [false, true] (by decide) (by decide) _
    unfold onKeys
    simp only [two]
    iintro ⟨⟨H0, H1⟩, ⟨Ha, -⟩, ⟨Hb, -⟩, ⟨Hc, -⟩, ⟨Hd, -⟩, ⟨He, -⟩, ⟨Hf, -⟩, ⟨Hg, -⟩, ⟨Hh, -⟩⟩
    isplitl [H1]; · iexact H1
    isplitl [H0]; · iexact H0
    isplitl [Ha]; · iexact Ha
    isplitl [Hb]; · iexact Hb
    isplitl [Hc]; · iexact Hc
    isplitl [Hd]; · iexact Hd
    isplitl [He]; · iexact He
    isplitl [Hf]; · iexact Hf
    isplitl [Hg] <;> iassumption
  refine (bigSep_mono fun c _ => one c).trans ?_
  unfold payToks onMoves onKeys
  simp only [bigSep_sep']
  show (_ : sProp 𝕄) ⊢ _
  iintro ⟨HB1, HB0, HS00, HS10, HS01, HS11, HR00, HR10, HR01, HR11⟩
  isplitl [HB0 HB1]
  · isplitl [HB0]
    · iapply (around false fun c : Dev nD => (dutyTok ER (cell c none) 0 false : sProp 𝕄)); iexact HB0
    · iapply (around true fun c : Dev nD => (dutyTok ER (cell c none) 0 true : sProp 𝕄)); iexact HB1
  isplitl [HS00 HS10 HS01 HS11]
  · isplitl [HS00]; · iexact HS00
    isplitl [HS10]; · iexact HS10
    isplitl [HS01] <;> iassumption
  have arr (h s : Bool) : (bigSep Finset.univ fun c : Dev nD => (dutyTok ER (cell c (some (true, h, s))) 0 false : sProp 𝕄))
      ⊢ bigSep Finset.univ fun c : Dev nD => dutyTok ER (cell (pr (xor h s) c) (some (true, h, s))) 0 false :=
    around (xor h s) fun c => dutyTok ER (cell c (some (true, h, s))) 0 false
  isplitl [HR00]; · iapply (arr false false); iexact HR00
  isplitl [HR10]; · iapply (arr true false); iexact HR10
  isplitl [HR01]; · iapply (arr false true); iexact HR01
  iapply (arr true true); iexact HR11

/-- What a device has once the protocol's invariants stand: the records, its own part, and its copies' semaphores. -/
def G' (X : Dev nD → Vec F S1x256x256 .f32) (c : Dev nD) : sProp 𝕄 :=
  iprop((∃ K : Dev nD × Key → ℕ, records X K ∗ linear (F := F) c) ∗ copyZero c)

/-- One device's invariants, from its semaphores at zero and its share of the state. -/
theorem stand (X : Dev nD → Vec F S1x256x256 .f32) (c : Dev nD) :
    iprop(Pipeline.ownSems0 (Ix := Unit) (Name := ℕ) (U := UU) (Lvl := ℕ) (Val := Elt F) (τ := τ) osem c ∗ unscopedSems0 c ∗ G X c)
      ⊢ |={Set.univ}=> iprop((bigSep Finset.univ fun k : Key => iprop(∃ κ : ℕ, cellInv ER (Rd X) κ (cell c k)))
          ∗ (bigSep Finset.univ fun k : Key => atPos ER (cell c k) 0 ∅ 0)
          ∗ (bigSep Finset.univ fun k : Key => reached ER (cell c k) 0)
          ∗ (bigSep Finset.univ fun kd : Key × Bool => dutyTok ER (cell c kd.1) 0 kd.2) ∗ copyZero c) := by
  unfold G
  iintro ⟨Ho, Hu, Hs, Ha, Hr, Ht⟩
  ihave Hz := (sems_eq c) $$ [Ho Hu]
  · isplitl [Ho] <;> iassumption
  icases Hz with ⟨Hc, Hz⟩
  ihave Hz := (Entails.of_eq (keys_eq fun k => (semVal (cell c k) 0 : sProp 𝕄)).symm) $$ Hz
  imod (show iprop((bigSep Finset.univ fun k : Key => semVal (cell c k) 0) ∗ bigSep Finset.univ fun k : Key => roundState ER (Rd X) (cell c k) 0)
      ⊢ (|={Set.univ}=> bigSep Finset.univ fun k : Key => iprop(∃ κ : ℕ, cellInv ER (Rd X) κ (cell c k)) : sProp 𝕄) from
    (Entails.of_eq (bigSep_sep' _ _ _).symm).trans
      ((bigSep_mono fun k _ => (Rounds.body_intro ER (Rd X) (cell c k)).trans inv_alloc).trans (bigSep_fupd _ _))) $$ [Hz Hs] with Hi
  · isplitl [Hz] <;> iassumption
  imodintro
  isplitl [Hi]; · iexact Hi
  isplitl [Ha]; · iexact Ha
  isplitl [Hr]; · iexact Hr
  isplitl [Ht] <;> iassumption

/-- All devices' together, named by one function and known to every device. -/
theorem stood (X : Dev nD → Vec F S1x256x256 .f32) :
    (bigSep Finset.univ fun c : Dev nD => iprop((bigSep Finset.univ fun k : Key => iprop(∃ κ : ℕ, cellInv ER (Rd X) κ (cell c k)))
          ∗ (bigSep Finset.univ fun k : Key => atPos ER (cell c k) 0 ∅ 0)
          ∗ (bigSep Finset.univ fun k : Key => reached ER (cell c k) 0)
          ∗ (bigSep Finset.univ fun kd : Key × Bool => dutyTok ER (cell c kd.1) 0 kd.2) ∗ copyZero c) : sProp 𝕄)
      ⊢ bigSep Finset.univ (G' X) := by
  rw [bigSep_sep', bigSep_sep', bigSep_sep', bigSep_sep',
    ← bigSep_univ_prod (fun ck : Dev nD × Key => iprop(∃ κ : ℕ, cellInv ER (Rd X) κ (cell ck.1 ck.2))),
    ← bigSep_univ_prod (fun ck : Dev nD × Key => (reached ER (cell ck.1 ck.2) 0 : sProp 𝕄))]
  iintro ⟨Hi, Ha, #Hr, Ht, Hc⟩
  ihave HK := (BI.bigSep_exists_pi Finset.univ (fun (ck : Dev nD × Key) (κ : ℕ) => (cellInv ER (Rd X) κ (cell ck.1 ck.2) : sProp 𝕄))) $$ Hi
  icases HK with ⟨%K, #Hi⟩
  ihave Ht := (toks_dealt (F := F)) $$ Ht
  ihave #HR := (show iprop((bigSep Finset.univ fun ck : Dev nD × Key => cellInv ER (Rd X) (K ck) (cell ck.1 ck.2))
      ∗ bigSep Finset.univ fun ck : Dev nD × Key => reached ER (cell ck.1 ck.2) 0) ⊢ records X K from Entails.of_eq rfl) $$ []
  · isplitr; · iexact Hi
    iexact Hr
  ihave HRs := (BI.bigSep_of_persistent (Finset.univ : Finset (Dev nD)) (records X K)) $$ HR
  iapply (show iprop((bigSep Finset.univ fun _ : Dev nD => records X K) ∗ (bigSep Finset.univ fun c : Dev nD => bigSep Finset.univ fun k : Key => atPos ER (cell c k) 0 ∅ 0)
      ∗ (bigSep Finset.univ fun c : Dev nD => payToks (F := F) c) ∗ bigSep Finset.univ fun c : Dev nD => copyZero (F := F) c) ⊢ bigSep Finset.univ (G' X) from by
    rw [← bigSep_sep', ← bigSep_sep', ← bigSep_sep']
    refine bigSep_mono fun c _ => ?_
    unfold G' linear
    rw [keys_eq]
    show (_ : sProp 𝕄) ⊢ _
    iintro ⟨HR, Ha, Ht, Hc⟩
    isplitr [Hc]
    · iexists K
      isplitl [HR]; · iexact HR
      isplitl [Ha] <;> iassumption
    · iexact Hc)
  isplitl [HRs]; · iexact HRs
  isplitl [Ha]; · iexact Ha
  isplitl [Ht] <;> iassumption

/-- The global step of the launch. -/
theorem glob (X : Dev nD → Vec F S1x256x256 .f32) :
    (bigSep Finset.univ fun c => iprop(Pipeline.ownSems0 (Ix := Unit) (Name := ℕ) (U := UU) (Lvl := ℕ) (Val := Elt F) (τ := τ) osem c ∗ unscopedSems0 c ∗ G X c) : sProp 𝕄)
      ⊢ |={Set.univ}=> bigSep Finset.univ (G' X) :=
  ((bigSep_mono fun c _ => stand X c).trans (bigSep_fupd _ _)).trans (BI.fupd_mono (stood X))

/-! ## The credit -/

/-- What the devices together owe index `k` of device `c` under an index `k'` of their partners in one direction. -/
theorem sum_tally (e : Bool) (c : Dev nD) (k k' : Key) (a : ℕ) :
    (∑ d : Dev nD, (tallyAt (cell (pr e d) k') () a : CellTallies nD τ sig Unit) (cell c k) ()) = if k = k' then a else 0 := by
  have one (d : Dev nD) : (tallyAt (cell (pr e d) k') () a : CellTallies nD τ sig Unit) (cell c k) ()
      = if d = pr e c then (if k = k' then a else 0) else 0 := by
    rw [tallyAt_apply]
    by_cases hk : k = k'
    · subst hk
      by_cases hd : d = pr e c
      · subst hd; rw [pr_pr, if_pos ⟨rfl, rfl⟩, if_pos rfl, if_pos rfl]
      · rw [if_neg hd, if_neg]
        rintro ⟨h, -⟩
        have h1 : c = pr e d := congrArg (fun g : GSem nD τ sig => g.1.1) h
        exact hd (by rw [h1, pr_pr])
    · rw [if_neg hk, ite_self, if_neg]
      rintro ⟨h, -⟩
      exact hk (csem_injective (congrArg Prod.snd h))
  rw [Finset.sum_congr rfl fun d _ => one d, Finset.sum_ite_eq' Finset.univ (pr e c) fun _ => _, if_pos (Finset.mem_univ _)]

/-- What they owe it in all. -/
def due (k : Key) : ℕ := match k with
  | none => 2
  | some (false, _, _) => 0
  | some (true, _, _) => N

theorem launch_at (c : Dev nD) (k : Key) :
    tallyOn (cell c k) (launchCredit (Pipeline.owing O₀) 0 (cell c k)) = (tallyAt (cell c k) () (due k) : CellTallies nD τ sig Unit) := by
  unfold tallyAt
  refine congrArg _ (Finsupp.ext fun u => ?_)
  cases u
  rw [Pipeline.launchCredit_owing, Finsupp.single_eq_same]
  unfold O₀ O₁ O₂
  simp only [Pi.add_apply, Finsupp.add_apply, Finset.sum_add_distrib, sum_tally]
  unfold due
  rcases k with _ | ⟨_ | _, _ | _, _ | _⟩ <;> simp

/-- The launch's credit holds what a device's waits draw on. -/
theorem creds_dealt (c : Dev nD) : (Pipeline.launchCred O₀ c : sProp 𝕄) ⊢ creds (F := F) c := by
  have h : (Pipeline.launchCred O₀ c : sProp 𝕄) ⊢ onKeys fun k => cred (tallyAt (cell c k) () (due k)) := by
    unfold Pipeline.launchCred
    refine (BI.bigSep_subset (t := Finset.univ.map ⟨csem, csem_injective⟩) (Finset.subset_univ _)).trans ?_
    rw [bigSep_map, ← keys_eq]
    exact bigSep_mono fun k _ => Entails.of_eq (congrArg cred (launch_at c k))
  refine h.trans ?_
  unfold onKeys creds onMoves due
  iintro ⟨H, -, -, -, -, H00, H10, H01, H11⟩
  isplitl [H]; · iexact H
  isplitl [H00]; · iexact H00
  isplitl [H10]; · iexact H10
  isplitl [H01] <;> iassumption

/-! ## The region's data -/

/-- What a device has before its scratch buffers are made. -/
def start (c : Dev nD) : sProp 𝕄 :=
  iprop(G' (blk m) c ∗ creds (F := F) c ∗ levAts L lv
    ∗ owns (c : Thread nD τ) (Memref.whole main_arg0) fullShare (blk m c)
    ∗ (∃ g : main_v1.ty.Contents (Elt F), owns (c : Thread nD τ) (Memref.whole main_v1) fullShare g))

/-- What outlives the kernel: the barrier at zero, the block, and the result. -/
def ending (c : Dev nD) : sProp 𝕄 :=
  iprop(unscopedSems0 c ∗ owns (c : Thread nD τ) (Memref.whole main_arg0) fullShare (blk m c)
    ∗ owns (c : Thread nD τ) (Memref.whole main_v1) fullShare (outAt (blk m) c))

/-- The region has no windows and one point: before it the start, after it the end. -/
def dats (_ : Fin 1) (c : Dev nD) : Dat τ (Elt F) Unit ℕ UU ℕ cfg0 c where
  A w := w.elim0
  after w _ := w.elim0
  Φ t := match t with
    | ⟨0, _⟩ => iprop(start m c ∗ scratch (F := F) c)
    | ⟨_ + 1, _⟩ => iprop(ending m c ∗ Pipeline.ownSems0 osem c ∗ scratch (F := F) c)
  q _ := fullShare
  owed t := match t with
    | ⟨0, _⟩ => O₀ c
    | ⟨_ + 1, _⟩ => 0

omit [FloatOps F] in
/-- A sum over no windows. -/
theorem no_windows (Φ : Fin cfg0.W → sProp 𝕄) : bigSep Finset.univ Φ = iprop(emp) := by
  rw [show (Finset.univ : Finset (Fin cfg0.W)) = ∅ from rfl]; exact bigSep_empty

/-- The body at the region's point. -/
theorem body_obligation (c : Dev nD) : BodyObligation (dats (F := F) m 0 c) (defs₀ (F := F)) 𝒱₀ () Set.univ := fun t => by
  rw [fin_N0 t, no_windows, no_windows]
  unfold Dat.owesAt Pipeline.owesWithin
  show iprop((start m c ∗ scratch (F := F) c) ∗ (∃ W : Waits sig Unit, ⌜_⌝ ∗ owes (c : Thread nD τ) (O₀ c) W) ∗ emp)
    ⊢ runs c (cc0_body (Memref.whole main_arg0) (Memref.isWhole_whole _) (Memref.whole main_v1) (Memref.isWhole_whole _)
        (Memref.whole cc0_scratch0) (Memref.isWhole_whole _) (Memref.whole cc0_scratch1) (Memref.isWhole_whole _)
        (Memref.whole cc0_scratch2) (Memref.isWhole_whole _) (Memref.whole cc0_scratch3) (Memref.isWhole_whole _)
        (Memref.whole cc0_scratch4) (Memref.isWhole_whole _) (Memref.whole cc0_scratch5) (Memref.isWhole_whole _)
        cc0_scratch6 cc0_scratch7 cc0_scratch8)
      (fun _ => iprop((ending m c ∗ Pipeline.ownSems0 osem c ∗ scratch (F := F) c) ∗ (∃ W : Waits sig Unit, ⌜_⌝ ∗ owes (c : Thread nD τ) 0 W) ∗ emp))
  unfold start G' copyZero
  iintro ⟨⟨⟨⟨⟨%K, HK⟩, Hz⟩, Hc, Hl, Hx, Hg⟩, Hs⟩, ⟨%W, -, HO⟩, -⟩
  iapply (body_runs (blk m) K c) $$ [HK Hz Hc Hl Hx Hg Hs HO]
  · unfold bodyPre owing
    isplitl [HK]; · iexact HK
    isplitl [Hc]; · iexact Hc
    isplitl [Hl]; · iexact Hl
    isplitl [Hx]; · iexact Hx
    isplitl [Hg]; · iexact Hg
    isplitl [Hz]; · iexact Hz
    isplitl [Hs]; · iexact Hs
    iexists W; iexact HO
  unfold bodyPost owing ending
  rw [ownSems0_eq, unscopedSems0_eq, keys_some]
  unfold copyZero
  iintro ⟨Hx, Hg, Hz, ⟨Hb, Hj⟩, Hs, ⟨%W', HO⟩⟩
  isplitr [HO]
  · isplitl [Hb Hx Hg]
    · isplitl [Hb]; · iexact Hb
      isplitl [Hx] <;> iassumption
    isplitl [Hz Hj]
    · isplitl [Hz] <;> iassumption
    iexact Hs
  isplitl [HO]
  · iexists W'
    isplitr; · ipureintro; exact fun _ _ => Or.inl trivial
    iexact HO
  iempintro

/-! ## The run -/

/-- A device's start, from what the launch hands it. -/
theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' (blk m) c)
      ⊢ |={Set.univ}=> iprop(start m c ∗ emp) := by
  rw [Pipeline.unscopedRestP_none, unscopedRest0_eq]
  iintro ⟨⟨Hx, Hg⟩, Hl, Hc, -, HG⟩
  ihave Hc := (creds_dealt (F := F) c) $$ Hc
  imodintro
  unfold start
  isplitl
  · isplitl [HG]; · iexact HG
    isplitl [Hc]; · iexact Hc
    isplitl [Hl]; · iexact Hl
    isplitl [Hx]
    · iapply (Entails.of_eq (owns_whole (c : Thread nD τ) main_arg0 fullShare (blk m c)).symm); iexact Hx
    iexists (m ((c : Thread nD τ).loc main_v1))
    iapply (Entails.of_eq (owns_whole (c : Thread nD τ) main_v1 fullShare (m ((c : Thread nD τ).loc main_v1))).symm); iexact Hg
  · iempintro

/-- What the run leaves on a device: its block, its result, and its unscoped semaphores at zero. -/
def Left (c : Dev nD) (s : MemSt nD τ sig (Elt F)) : Prop :=
  (s.mem ((c : Thread nD τ).loc main_arg0) = blk m c ∧ s.mem ((c : Thread nD τ).loc main_v1) = outAt (blk m) c)
    ∧ ∀ sm : SemLoc sig, sm.isScoped .tc = false → s.sem ((c.tc : Thread nD τ), sm) = 0

/-- What outlives the kernel says so. -/
theorem left_read (c : Dev nD) (s' : Phys nD τ sig (Elt F)) :
    iprop(ending m c ∗ emp ∗ SI s') ⊢ (|={Set.univ}=> iprop(⌜Left m c s'.mem⌝ ∗ SI s') : sProp 𝕄) := by
  unfold ending
  rw [owns_whole, owns_whole]
  iintro ⟨⟨Hu, Hx, Hg⟩, -, HSI⟩
  ihave %hx := (SI_pointsTo_agree (st := s')) $$ [HSI Hx]
  · isplitl [HSI] <;> iassumption
  ihave %hg := (SI_pointsTo_agree (st := s')) $$ [HSI Hg]
  · isplitl [HSI] <;> iassumption
  imod (Pipeline.unscopedSems0_read (X := unscopedSems0 c) (c := c) fupd_intro s') $$ [Hu HSI] with ⟨%hz, HSI⟩
  · isplitl [Hu] <;> iassumption
  imodintro
  isplitr
  · ipureintro
    exact ⟨⟨funext fun i => hx i (Finset.mem_univ i), funext fun i => hg i (Finset.mem_univ i)⟩, hz⟩
  iexact HSI

set_option maxRecDepth 8000 in
/-- The program runs from any memory, over any floats, on the four devices: each ends with its block unchanged and the
    result `outAt` of the four blocks, and every semaphore is back at zero. -/
theorem run_main : θ_run defs (onTc (τ := τ) (main (F := F))) (s₀ m ρ) (fun r => (∀ c : Dev nD,
    r.2.mem ((c : Thread nD τ).loc main_arg0) = blk m c ∧ r.2.mem ((c : Thread nD τ).loc main_v1) = outAt (blk m) c) ∧ r.2.sem = fun _ => 0) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := body_obligation m) (hne := fun w => w.elim0) (harr := arr_whole0) (hstage := stage_whole0) (hshare := fun _ w => w.elim0)
    (hdistinct := winFacts0.arr_inj)
    (O₀ := O₀) (howed₀ := fun _ => rfl) (howedN := fun _ => rfl)
    (L := L) (lv := lv) (hL := L_of_ne) (hwaits := fun c => Pipeline.cellsWaits_intro cfgs (dats m) () 0 c fun w => w.elim0)
    (G := G (blk m)) (G' := G' (blk m)) (u₀ := u₀)
    (hu₀ := by
      unfold u₀
      iintro Hu
      ihave H := (ownU_pair _ _) $$ Hu
      icases H with ⟨HP, HX⟩
      ihave HX := (own_pair_emb (embR : Emb (UB × Counters) 𝕄) _ _) $$ HX
      icases HX with ⟨HX, -⟩
      imod (minted (blk m)) $$ HX with HG
      imodintro
      isplitl [HP] <;> iassumption)
    (hglob := glob (blk m))
    (hA := fun _ w => w.elim0) (hpf := fun _ k => k.elim0)
    (X := start m) (Y := ending m) (Z := fun _ => iprop(emp))
    (hX := start_intro m ρ)
    (hin := fun c => by
      rw [show (dats m 0 c).Φ 0 = iprop(start m c ∗ scratch (F := F) c) from rfl, scopedRest0_eq]
      unfold scratch
      iintro ⟨Hs, -, Hr⟩
      isplitl [Hs] <;> iassumption)
    (hout := fun c => by
      rw [show (dats m 0 c).Φ (Fin.last cfg0.N) = iprop(ending m c ∗ Pipeline.ownSems0 osem c ∗ scratch (F := F) c) from rfl, scopedRest0_eq]
      exact Entails.of_eq rfl)
    (QY := Left m) (hY := left_read m)
    (hQ := fun _ h hs => ⟨fun c => (h c).2.2.1, sem_eq_zero hs fun c => (h c).2.2.2⟩)

end Cert.TreeProof

end
-- ==== Proof.Value.lean ====
/-
The result over the extended reals: every device's is, entry by entry, the sum of the four devices' blocks, which is
what the reference computes of the whole array.
-/
module

public import proofs.«01_k».proof.Proof.Body
public import proofs.«01_k».proof.Proof.Gen.ReferenceIdeal.Run
public import Idealize.ShloMosaic.Lib.Pointwise
public import Idealize.ShloMosaic.Lib.Pointwise.IndexBridge
public import Idealize.ShloMosaic.Lib.Layout

@[expose] public section

noncomputable section

namespace Cert.TreeProof

open Cert.KernelIdeal Cert.KernelIdeal.Gen

open Idealize.ShloMosaic

variable (X : Dev nD → Vec Ideal S1x256x256 .f32)

/-- Four numbers, added as a device and its partner first and then across, are their sum. -/
theorem sum_across (f : Dev nD → EReal) (d : Bool) (c : Dev nD) :
    f c + f (pr d c) + (f (pr (!d) c) + f (pr d (pr (!d) c))) = ∑ e : Dev nD, f e := by
  rw [show (∑ e : Dev nD, f e) = f 0 + f 1 + f 2 + f 3 from Fin.sum_univ_four f]
  have h : ∀ (d : Bool) (c : Dev nD), ([c, pr d c, pr (!d) c, pr d (pr (!d) c)] : List (Dev nD)).Perm [0, 1, 2, 3] := by decide
  have := ((h d c).map f).sum_eq
  simp only [List.map_cons, List.map_nil, List.sum_cons, List.sum_nil, add_zero, ← add_assoc] at this
  rw [← add_assoc]
  exact this

set_option maxRecDepth 16384 in
/-- An entry of the upper half is the sum of the devices' entries there, -/
theorem upper_apply (c : Dev nD) (r : Fin 128) (l : Fin 256) :
    upper X c (ix2 r l) = ∑ e : Dev nD, X e (ix3 0 ⟨r.val, by omega⟩ l) := by
  rw [← sum_across (fun e => X e (ix3 0 ⟨r.val, by omega⟩ l)) false c]
  unfold upper val val1 val0
  pointwise [k0_pay1, k0_pay2, k0_pay4, k0_pay6]
  rfl

set_option maxRecDepth 16384 in
/-- and one of the lower half, their sum in the lower rows. -/
theorem lower_apply (c : Dev nD) (r : Fin 128) (l : Fin 256) :
    lower X c (ix2 r l) = ∑ e : Dev nD, X e (ix3 0 ⟨128 + r.val, by omega⟩ l) := by
  rw [← sum_across (fun e => X e (ix3 0 ⟨128 + r.val, by omega⟩ l)) true c]
  unfold lower val val1 val0
  pointwise [k0_pay1, k0_pay3, k0_pay5, k0_pay7, k0_pay8]
  rfl

/-- So every entry of the result is the sum of the devices' entries. -/
theorem outAt_apply (c : Dev nD) (r l : Fin 256) : outAt X c (ix2 r l) = ∑ e : Dev nD, X e (ix3 0 r l) := by
  unfold outAt
  by_cases h : r.val < 128
  · exact (dif_pos h).trans (upper_apply X c ⟨r.val, h⟩ l)
  · refine (dif_neg h).trans ((lower_apply X c ⟨r.val - 128, by omega⟩ l).trans ?_)
    refine Finset.sum_congr rfl fun e _ => congrArg (fun k => X e (ix3 0 k l)) (Fin.ext ?_)
    show 128 + (r.val - 128) = r.val
    omega

/-- The reference's result of a whole array `A`. -/
def refOut (A : FVec Ideal Cert.ReferenceIdeal.S4x256x256 .f32) : FVec Ideal Cert.ReferenceIdeal.S256x256 .bf16 :=
  truncf .bf16 (Host.reduceAdd A (constant Cert.ReferenceIdeal.S_ .f32 0x00000000#32)
    Cert.ReferenceIdeal.Gen.reducesTo_S4x256x256_S256x256_d0 Cert.ReferenceIdeal.Gen.h_S_) Cert.ReferenceIdeal.Gen.bitsLt_bf16_f32

set_option maxRecDepth 16384 in
/-- An entry of it is the sum down the array's first axis. -/
theorem refOut_apply (A : FVec Ideal Cert.ReferenceIdeal.S4x256x256 .f32) (r l : Fin 256) :
    refOut A (ix2 r l) = ∑ e : Fin 4, A (ix3 e r l) := by
  unfold refOut
  pointwise

/-- If the devices hold the blocks of `A`, each device's result is the reference's. -/
theorem outAt_eq (A : FVec Ideal Cert.ReferenceIdeal.S4x256x256 .f32)
    (h : ∀ c : Dev nD, X c = Layout.block ⟨3, ![1, 256, 256]⟩ ⟨3, ![4, 256, 256]⟩ 0 4 c A) (c : Dev nD) : outAt X c = refOut A := by
  funext (i : S256x256.Idx)
  idx_vars i
  rw [outAt_apply, refOut_apply]
  refine Finset.sum_congr rfl fun e _ => ?_
  rw [h e, Layout.block_apply]
  refine congrArg A (funext fun b => Fin.ext ?_)
  rw [Layout.Tiles.idx_val]
  fin_cases b <;> simp
  all_goals rfl

end Cert.TreeProof

end
-- ==== Proof.lean ====
/-
The five claims of `Cert.Claim`: the kernel as printed and its idealization run and leave the machine as they found it
but for the result, so does the reference, and over the extended reals the kernel's result is the reference's.
-/
module

public import proofs.«01_k».proof.Defs
public import proofs.«01_k».proof.Proof.Gen.Kernel
public import proofs.«01_k».proof.Proof.Gen.ReferenceIdeal.Run
public import proofs.«01_k».proof.Proof.Run
public import proofs.«01_k».proof.Proof.Value
public import Idealize.ShloMosaic.Lib.Quiescent

@[expose] public section

noncomputable section

namespace Cert.Proof

open Idealize.ShloMosaic Idealize.SL.Sem

/-- The kernel as printed: the run of its idealization, at bit patterns, is also its own. -/
theorem frame_kernel : Cert.quiescent_Kernel := fun m ρ _ =>
  (θ_run Cert.KernelIdeal.defs _ _).mono (fun _ h => ⟨fun c => (h.1 c).1, h.2⟩) (Cert.TreeProof.run_main (F := Bits) m ρ)

/-- The idealized kernel: the same run at extended reals. -/
theorem frame_ideal : Cert.quiescent_KernelIdeal := fun m ρ _ =>
  (θ_run Cert.KernelIdeal.defs _ _).mono (fun _ h => ⟨fun c => (h.1 c).1, h.2⟩) (Cert.TreeProof.run_main (F := Ideal) m ρ)

/-- The reference has no semaphores, so its run is all there is to say. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- From the blocks of one array the kernel's devices all end with the reference's result of that array. -/
theorem value : Cert.algebraic_KernelIdeal_ReferenceIdeal := fun m ρ m' ρ' _ hm =>
  ⟨Cert.TreeProof.refOut (m' (((0 : Dev Cert.ReferenceIdeal.nD).tc : Thread Cert.ReferenceIdeal.nD Cert.ReferenceIdeal.τ).loc Cert.ReferenceIdeal.main_arg0)),
    (θ_run Cert.KernelIdeal.defs _ _).mono
      (fun _ h c => ⟨(h.1 c).2.trans (Cert.TreeProof.outAt_eq (Cert.TreeProof.blk m) _ hm c), (h.1 c).1⟩)
      (Cert.TreeProof.run_main (F := Ideal) m ρ),
    (θ_run Cert.ReferenceIdeal.defs _ _).mono (fun _ h => h 0) (Cert.ReferenceIdeal.Value.run (F := Ideal) m' ρ')⟩

theorem claim : Cert.Claim := ⟨Cert.Kernel.Gen.facts, Cert.KernelIdeal.Gen.facts, Cert.ReferenceIdeal.Gen.facts,
  frame_kernel, frame_ideal, frame_reference, trivial, value⟩

end Cert.Proof

end
